-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x64x2048 : Shape := ⟨3, ![16, 64, 2048]⟩
abbrev S1024x64 : Shape := ⟨2, ![1024, 64]⟩
abbrev S_ : Shape := ⟨0, ![]⟩

class Facts : Prop where
  bcast_S_S16x64x2048 : S_.BroadcastsInDim S16x64x2048 (![] : Fin 0 → Fin S16x64x2048.rank)
  bcast_S_S1024x64 : S_.BroadcastsInDim S1024x64 (![] : Fin 0 → Fin S1024x64.rank)

variable [Facts]

def fn {F : FTy → Type} [FloatOps F] (main_arg0 : FVec F S16x64x2048 .f32) (main_arg1 : FVec F S1024x64 .f32) : IVec S16x64x2048 1 × IVec S1024x64 1 :=
  let main_v0 : FVec F S16x64x2048 .f32 := Host.absf main_arg0
  let main_cst : FVec F S_ .f32 := constant S_ .f32 0x7F800000#32
  let main_v1 : FVec F S16x64x2048 .f32 := broadcastInDim S16x64x2048 ![] bcast_S_S16x64x2048 main_cst
  let main_v2 : IVec S16x64x2048 1 := cmpf .olt main_v0 main_v1
  let main_v3 : FVec F S1024x64 .f32 := Host.absf main_arg1
  let main_cst_0 : FVec F S_ .f32 := constant S_ .f32 0x7F800000#32
  let main_v4 : FVec F S1024x64 .f32 := broadcastInDim S1024x64 ![] bcast_S_S1024x64 main_cst_0
  let main_v5 : IVec S1024x64 1 := cmpf .olt main_v3 main_v4
  (main_v2, main_v5)
-- ==== Kernel.lean ====
abbrev S16x64x2048 : Shape := ⟨3, ![16, 64, 2048]⟩
abbrev S1024x64 : Shape := ⟨2, ![1024, 64]⟩
abbrev S16x1x2048 : Shape := ⟨3, ![16, 1, 2048]⟩
abbrev S1x2048 : Shape := ⟨2, ![1, 2048]⟩
abbrev S2x64x2048 : Shape := ⟨3, ![2, 64, 2048]⟩
abbrev S2x1x2048 : Shape := ⟨3, ![2, 1, 2048]⟩
abbrev S1024x1 : Shape := ⟨2, ![1024, 1]⟩
abbrev S1024 : Shape := ⟨1, ![1024]⟩
abbrev S1x64x2048 : Shape := ⟨3, ![1, 64, 2048]⟩
abbrev S64x2048 : Shape := ⟨2, ![64, 2048]⟩
abbrev S2048 : Shape := ⟨1, ![2048]⟩
abbrev S1024x2048 : Shape := ⟨2, ![1024, 2048]⟩
abbrev S1x1x2048 : Shape := ⟨3, ![1, 1, 2048]⟩
abbrev S_ : Shape := ⟨0, ![]⟩
abbrev S16x2048 : Shape := ⟨2, ![16, 2048]⟩

abbrev nBuf : Space → Nat
  | .hbm => 13
  | .vmem => 12
  | .smem => 0
  | _ => 0

abbrev bufTy : (tb : Table) → Fin (tcTables nBuf tb) → BufTy
  | .hbm, ⟨0, _⟩ => ⟨S16x64x2048, .f32⟩
  | .hbm, ⟨1, _⟩ => ⟨S1024x64, .f32⟩
  | .hbm, ⟨2, _⟩ => ⟨S16x64x2048, .f32⟩
  | .hbm, ⟨3, _⟩ => ⟨S16x1x2048, .i32⟩
  | .hbm, ⟨4, _⟩ => ⟨S1x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16x2048, .i32⟩
  | .local _ .vmem, ⟨0, _⟩ => ⟨S2x64x2048, .f32⟩
  | .local _ .vmem, ⟨1, _⟩ => ⟨S2x64x2048, .f32⟩
  | .local _ .vmem, ⟨2, _⟩ => ⟨S1024x64, .f32⟩
  | .local _ .vmem, ⟨3, _⟩ => ⟨S2x64x2048, .f32⟩
  | .local _ .vmem, ⟨4, _⟩ => ⟨S2x64x2048, .f32⟩
  | .local _ .vmem, ⟨5, _⟩ => ⟨S2x1x2048, .i32⟩
  | .local _ .vmem, ⟨6, _⟩ => ⟨S2x1x2048, .i32⟩
  | .local _ .vmem, ⟨7, _⟩ => ⟨S1x2048, .f32⟩
  | .local _ .vmem, ⟨8, _⟩ => ⟨S1024x1, .f32⟩
  | .local _ .vmem, ⟨9, _⟩ => ⟨S1024x64, .bf16⟩
  | .local _ .vmem, ⟨10, _⟩ => ⟨S1024x64, .f32⟩
  | .local _ .vmem, ⟨11, _⟩ => ⟨S1024x1, .f32⟩
  | _, _ => ⟨S16x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== ReferenceIdeal.lean ====
abbrev S16x64x2048 : Shape := ⟨3, ![16, 64, 2048]⟩
abbrev S1024x64 : Shape := ⟨2, ![1024, 64]⟩
abbrev S16x2048x64 : Shape := ⟨3, ![16, 2048, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S64x1024 : Shape := ⟨2, ![64, 1024]⟩
abbrev S1 : Shape := ⟨1, ![1]⟩
abbrev S1x1 : Shape := ⟨2, ![1, 1]⟩
abbrev S16x2048 : Shape := ⟨2, ![16, 2048]⟩

abbrev nBuf : Space → Nat
  | .hbm => 69
  | .vmem => 0
  | .smem => 0
  | _ => 0

abbrev bufTy : (tb : Table) → Fin (tcTables nBuf tb) → BufTy
  | .hbm, ⟨0, _⟩ => ⟨S16x64x2048, .f32⟩
  | .hbm, ⟨1, _⟩ => ⟨S1024x64, .f32⟩
  | .hbm, ⟨2, _⟩ => ⟨S16x2048x64, .f32⟩
  | .hbm, ⟨3, _⟩ => ⟨S32768x64, .f32⟩
  | .hbm, ⟨4, _⟩ => ⟨S32768x64, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S64x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .i32⟩
  | .hbm, ⟨22, _⟩ => ⟨S_, .f32⟩
  | .hbm, ⟨23, _⟩ => ⟨S_, .i32⟩
  | .hbm, ⟨24, _⟩ => ⟨S32768, .f32⟩
  | .hbm, ⟨25, _⟩ => ⟨S32768, .i32⟩
  | .hbm, ⟨26, _⟩ => ⟨S_, .i32⟩
  | .hbm, ⟨27, _⟩ => ⟨S32768, .i32⟩
  | .hbm, ⟨28, _⟩ => ⟨S32768, .i1⟩
  | .hbm, ⟨29, _⟩ => ⟨S_, .i32⟩
  | .hbm, ⟨30, _⟩ => ⟨S32768, .i32⟩
  | .hbm, ⟨31, _⟩ => ⟨S32768, .i32⟩
  | .hbm, ⟨32, _⟩ => ⟨S32768, .i32⟩
  | .hbm, ⟨33, _⟩ => ⟨S32768x1, .i32⟩
  | .hbm, ⟨34, _⟩ => ⟨S1, .i32⟩
  | .hbm, ⟨35, _⟩ => ⟨S_, .i32⟩
  | .hbm, ⟨36, _⟩ => ⟨S32768x1, .i32⟩
  | .hbm, ⟨37, _⟩ => ⟨S32768x1, .i1⟩
  | .hbm, ⟨38, _⟩ => ⟨S1x1, .i32⟩
  | .hbm, ⟨39, _⟩ => ⟨S32768x1, .i32⟩
  | .hbm, ⟨40, _⟩ => ⟨S32768x1, .i1⟩
  | .hbm, ⟨41, _⟩ => ⟨S32768x1, .i1⟩
  | .hbm, ⟨42, _⟩ => ⟨S_, .i1⟩
  | .hbm, ⟨43, _⟩ => ⟨S32768, .i1⟩
  | .hbm, ⟨44, _⟩ => ⟨S32768x64, .f32⟩
  | .hbm, ⟨45, _⟩ => ⟨S32768x64, .i1⟩
  | .hbm, ⟨46, _⟩ => ⟨S_, .f32⟩
  | .hbm, ⟨47, _⟩ => ⟨S32768x64, .f32⟩
  | .hbm, ⟨48, _⟩ => ⟨S32768x64, .f32⟩
  | .hbm, ⟨49, _⟩ => ⟨S16x2048x64, .f32⟩
  | .hbm, ⟨50, _⟩ => ⟨S16x2048x64, .f32⟩
  | .hbm, ⟨51, _⟩ => ⟨S16x2048x64, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S16x2048x64, .f32⟩
  | .hbm, ⟨57, _⟩ => ⟨S16x2048x64, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S16x2048x64, .f32⟩
  | .hbm, ⟨66, _⟩ => ⟨S16x2048x64, .f32⟩
  | .hbm, ⟨67, _⟩ => ⟨S16x64x2048, .f32⟩
  | .hbm, ⟨68, _⟩ => ⟨S16x2048, .i32⟩
  | _, _ => ⟨S16x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_4 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_cst_6 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩

abbrev nD : Nat := 1
abbrev τ : Topo := Topo.v7x

variable {F : FTy → Type} [FloatOps F]
-- ==== Proof.Body.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

/-! What one run of the kernel's body leaves, in terms of a row of the latents and the codebook. -/

set_option maxRecDepth 16384

noncomputable section

namespace Ker

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-! ### One row of the latents' block -/

/-- Row 0 of a block of two. -/
def row0 (x : Vec F S2x64x2048 .f32) : Vec F S1x64x2048 .f32 :=
  View.ld x (Rect.unit ![0, 0, 0] ![1, 64, 2048] inb_S2x64x2048_S1x64x2048_0_0_0)

/-- Row 1 of a block of two. -/
def row1 (x : Vec F S2x64x2048 .f32) : Vec F S1x64x2048 .f32 :=
  View.ld x (Rect.unit ![1, 0, 0] ![1, 64, 2048] inb_S2x64x2048_S1x64x2048_1_0_0)

/-- The distances of a row's 2048 vectors to the codebook rows. -/
def kDist (w : Vec F S1024x64 .f32) (x : Vec F S1x64x2048 .f32) : FVec F S1024x2048 .f32 :=
  k0_pay10 x (k0_pay7 w) (k0_pay5 w)

/-- The least distance of each vector. -/
def kMin (w : Vec F S1024x64 .f32) (x : Vec F S1x64x2048 .f32) : FVec F S1x2048 .f32 :=
  k0_pay11 x (k0_pay7 w) (k0_pay5 w)

/-- The index of each vector's nearest codebook row. -/
def kIdx (w : Vec F S1024x64 .f32) (x : Vec F S1x64x2048 .f32) : IVec S1x1x2048 32 :=
  k0_pay13 x (k0_pay7 w) (k0_pay5 w) k0_pay9

/-- Each vector's nearest codebook row. -/
def kQ (w : Vec F S1024x64 .f32) (x : Vec F S1x64x2048 .f32) : FVec F S1x64x2048 .f32 :=
  k0_pay15 (k0_pay14 x (k0_pay7 w) (k0_pay5 w) k0_pay9) (k0_pay6 w)

/-- The second row is computed as the first is: its least distances, -/
theorem min_row (w : Vec F S1024x64 .f32) (x : Vec F S1x64x2048 .f32) :
    k0_pay18 x (k0_pay7 w) (k0_pay5 w) = kMin w x := rfl

/-- its indices, -/
theorem idx_row (w : Vec F S1024x64 .f32) (x : Vec F S1x64x2048 .f32) :
    k0_pay2 (k0_pay19 x (k0_pay7 w) (k0_pay5 w) k0_pay9) = kIdx w x := rfl

/-- and its nearest rows. -/
theorem q_row (w : Vec F S1024x64 .f32) (x : Vec F S1x64x2048 .f32) :
    k0_pay3 (k0_pay19 x (k0_pay7 w) (k0_pay5 w) k0_pay9) (k0_pay6 w) = kQ w x := rfl

/-- The block of nearest rows a point leaves. -/
def qBlk (w : Vec F S1024x64 .f32) (x : Vec F S2x64x2048 .f32) : Vec F S2x64x2048 .f32 :=
  View.canon (Val := Elt F)
    [⟨Rect.unit ![1, 0, 0] ![1, 64, 2048] inb_S2x64x2048_S1x64x2048_1_0_0, kQ w (row1 x)⟩,
     ⟨Rect.unit ![0, 0, 0] ![1, 64, 2048] inb_S2x64x2048_S1x64x2048_0_0_0, kQ w (row0 x)⟩]

/-- The block of indices a point leaves. -/
def idxBlk (w : Vec F S1024x64 .f32) (x : Vec F S2x64x2048 .f32) : Vec F S2x1x2048 .i32 :=
  View.canon (Val := Elt F) (e := .i32)
    [⟨Rect.unit ![1, 0, 0] ![1, 1, 2048] inb_S2x1x2048_S1x1x2048_1_0_0, kIdx w (row1 x)⟩,
     ⟨Rect.unit ![0, 0, 0] ![1, 1, 2048] inb_S2x1x2048_S1x1x2048_0_0_0, kIdx w (row0 x)⟩]

/-- The accumulated least distances after a point, from those before it. -/
def accStep (w : Vec F S1024x64 .f32) (x : Vec F S2x64x2048 .f32) (a : Vec F S1x2048 .f32) : Vec F S1x2048 .f32 :=
  k0_pay4 (kMin w (row1 x)) (k0_pay16 (kMin w (row0 x)) a)

/-! ### What the scratch holds -/

/-- The first point writes the squared norms of the codebook rows. -/
theorem scrA0 (c : Dev nD) (t : Fin cfg0.N) (h0 : t.val % 8 = 0) :
    (outsAt0 m c t.val t.isLt).2.2.2.1 = k0_pay5 (iblk m c 1 t) := by
  rw [outsAt0_A m c t h0]
  frame_out

/-- A later point keeps the squared norms of the codebook rows. -/
theorem scrB0 (c : Dev nD) (t : Fin cfg0.N) (h0 : ¬t.val % 8 = 0) :
    (outsAt0 m c t.val t.isLt).2.2.2.1 = (outsAt0 m c (t.val - 1) (Nat.lt_of_le_of_lt (Nat.sub_le _ _) t.isLt)).2.2.2.1 := by
  rw [outsAt0_B m c t h0]
  rfl

/-- The first point writes the codebook in the narrow format. -/
theorem scrA1 (c : Dev nD) (t : Fin cfg0.N) (h0 : t.val % 8 = 0) :
    (outsAt0 m c t.val t.isLt).2.2.2.2.1 = k0_pay6 (iblk m c 1 t) := by
  rw [outsAt0_A m c t h0]
  frame_out

/-- A later point keeps the codebook in the narrow format. -/
theorem scrB1 (c : Dev nD) (t : Fin cfg0.N) (h0 : ¬t.val % 8 = 0) :
    (outsAt0 m c t.val t.isLt).2.2.2.2.1 = (outsAt0 m c (t.val - 1) (Nat.lt_of_le_of_lt (Nat.sub_le _ _) t.isLt)).2.2.2.2.1 := by
  rw [outsAt0_B m c t h0]
  rfl

/-- The first point writes minus twice the codebook. -/
theorem scrA2 (c : Dev nD) (t : Fin cfg0.N) (h0 : t.val % 8 = 0) :
    (outsAt0 m c t.val t.isLt).2.2.2.2.2.1 = k0_pay7 (iblk m c 1 t) := by
  rw [outsAt0_A m c t h0]
  frame_out

/-- A later point keeps minus twice the codebook. -/
theorem scrB2 (c : Dev nD) (t : Fin cfg0.N) (h0 : ¬t.val % 8 = 0) :
    (outsAt0 m c t.val t.isLt).2.2.2.2.2.1 = (outsAt0 m c (t.val - 1) (Nat.lt_of_le_of_lt (Nat.sub_le _ _) t.isLt)).2.2.2.2.2.1 := by
  rw [outsAt0_B m c t h0]
  rfl

/-- The first point writes the row numbers as floats. -/
theorem scrA3 (c : Dev nD) (t : Fin cfg0.N) (h0 : t.val % 8 = 0) :
    (outsAt0 m c t.val t.isLt).2.2.2.2.2.2 = k0_pay9 := by
  rw [outsAt0_A m c t h0]
  frame_out

/-- A later point keeps the row numbers as floats. -/
theorem scrB3 (c : Dev nD) (t : Fin cfg0.N) (h0 : ¬t.val % 8 = 0) :
    (outsAt0 m c t.val t.isLt).2.2.2.2.2.2 = (outsAt0 m c (t.val - 1) (Nat.lt_of_le_of_lt (Nat.sub_le _ _) t.isLt)).2.2.2.2.2.2 := by
  rw [outsAt0_B m c t h0]
  rfl

/-- The codebook, as the program is launched on it. -/
def wOf (c : Dev nD) : Vec F S1024x64 .f32 := m ((c.tc : Thread nD τ).loc main_arg1)

/-- Every point's block of the codebook is the whole codebook. -/
theorem iblk_w (c : Dev nD) (t : Fin cfg0.N) : iblk m c 1 t = wOf m c := by
  have e : ∀ t : Fin grid0.N, win0_1.index t = ![0, 0] := by decide +kernel
  funext y
  unfold wOf
  blk_ext [iblk, V, e t]

/-- After every point the scratch holds the squared norms of the codebook rows. -/
theorem scr0 (c : Dev nD) : ∀ (n : ℕ) (hn : n < cfg0.N), (outsAt0 m c n hn).2.2.2.1 = k0_pay5 (wOf m c)
  | 0, hn => (scrA0 m c ⟨0, hn⟩ rfl).trans (by first | rfl | rw [iblk_w])
  | n + 1, hn => by
    have hN : n + 1 < 8 := lt_of_lt_of_eq hn (show cfg0.N = 8 from N_0)
    exact (scrB0 m c ⟨n + 1, hn⟩ (by show ¬(n + 1) % 8 = 0; omega)).trans (scr0 c n (Nat.lt_of_succ_lt hn))

/-- After every point the scratch holds the codebook in the narrow format. -/
theorem scr1 (c : Dev nD) : ∀ (n : ℕ) (hn : n < cfg0.N), (outsAt0 m c n hn).2.2.2.2.1 = k0_pay6 (wOf m c)
  | 0, hn => (scrA1 m c ⟨0, hn⟩ rfl).trans (by first | rfl | rw [iblk_w])
  | n + 1, hn => by
    have hN : n + 1 < 8 := lt_of_lt_of_eq hn (show cfg0.N = 8 from N_0)
    exact (scrB1 m c ⟨n + 1, hn⟩ (by show ¬(n + 1) % 8 = 0; omega)).trans (scr1 c n (Nat.lt_of_succ_lt hn))

/-- After every point the scratch holds minus twice the codebook. -/
theorem scr2 (c : Dev nD) : ∀ (n : ℕ) (hn : n < cfg0.N), (outsAt0 m c n hn).2.2.2.2.2.1 = k0_pay7 (wOf m c)
  | 0, hn => (scrA2 m c ⟨0, hn⟩ rfl).trans (by first | rfl | rw [iblk_w])
  | n + 1, hn => by
    have hN : n + 1 < 8 := lt_of_lt_of_eq hn (show cfg0.N = 8 from N_0)
    exact (scrB2 m c ⟨n + 1, hn⟩ (by show ¬(n + 1) % 8 = 0; omega)).trans (scr2 c n (Nat.lt_of_succ_lt hn))

/-- After every point the scratch holds the row numbers as floats. -/
theorem scr3 (c : Dev nD) : ∀ (n : ℕ) (hn : n < cfg0.N), (outsAt0 m c n hn).2.2.2.2.2.2 = k0_pay9
  | 0, hn => (scrA3 m c ⟨0, hn⟩ rfl).trans (by first | rfl | rw [iblk_w])
  | n + 1, hn => by
    have hN : n + 1 < 8 := lt_of_lt_of_eq hn (show cfg0.N = 8 from N_0)
    exact (scrB3 m c ⟨n + 1, hn⟩ (by show ¬(n + 1) % 8 = 0; omega)).trans (scr3 c n (Nat.lt_of_succ_lt hn))

/-- What every point leaves in the first output's block. -/
theorem qAt (c : Dev nD) (t : Fin cfg0.N) : (outsAt0 m c t.val t.isLt).1 = qBlk (wOf m c) (iblk m c 0 t) := by
  have hN : t.val < 8 := lt_of_lt_of_eq t.isLt (show cfg0.N = 8 from N_0)
  by_cases h0 : t.val % 8 = 0
  · rw [outsAt0_A m c t h0]
    frame_out
    simp only [iblk_w, min_row, idx_row, q_row]
    rfl
  · rw [outsAt0_B m c t h0]
    frame_out
    simp only [read_unread_whole, scr0, scr1, scr2, scr3, min_row, idx_row, q_row]
    rfl

/-- What every point leaves in the second output's block. -/
theorem idxAt (c : Dev nD) (t : Fin cfg0.N) : (outsAt0 m c t.val t.isLt).2.1 = idxBlk (wOf m c) (iblk m c 0 t) := by
  have hN : t.val < 8 := lt_of_lt_of_eq t.isLt (show cfg0.N = 8 from N_0)
  by_cases h0 : t.val % 8 = 0
  · rw [outsAt0_A m c t h0]
    frame_out
    simp only [iblk_w, min_row, idx_row, q_row]
    rfl
  · rw [outsAt0_B m c t h0]
    frame_out
    simp only [read_unread_whole, scr0, scr1, scr2, scr3, min_row, idx_row, q_row]
    rfl

/-- The first point's accumulated distances start from zero. -/
theorem acc_zero (c : Dev nD) (hn : 0 < cfg0.N) :
    (outsAt0 m c 0 hn).2.2.1 = accStep (wOf m c) (iblk m c 0 ⟨0, hn⟩) k0_pay8 := by
  have h0 : (⟨0, hn⟩ : Fin cfg0.N).val % 8 = 0 := rfl
  refine (congrArg (fun z => z.2.2.1) (outsAt0_A m c ⟨0, hn⟩ h0)).trans ?_
  frame_out
  simp only [iblk_w, min_row, idx_row, q_row]
  rfl

/-- A later point adds to those of the point before. -/
theorem acc_succ (c : Dev nD) (n : ℕ) (hn : n + 1 < cfg0.N) :
    (outsAt0 m c (n + 1) hn).2.2.1
      = accStep (wOf m c) (iblk m c 0 ⟨n + 1, hn⟩) (outsAt0 m c n (Nat.lt_of_succ_lt hn)).2.2.1 := by
  have hN : n + 1 < 8 := lt_of_lt_of_eq hn (show cfg0.N = 8 from N_0)
  have h0 : ¬(⟨n + 1, hn⟩ : Fin cfg0.N).val % 8 = 0 := by show ¬(n + 1) % 8 = 0; omega
  refine (congrArg (fun z => z.2.2.1) (outsAt0_B m c ⟨n + 1, hn⟩ h0)).trans ?_
  frame_out
  simp only [read_unread_whole, scr0, scr1, scr2, scr3, min_row, idx_row, q_row]
  rfl

end Ker

end
-- ==== Proof.Nearest.lean ====
module

public import Idealize.ShloMosaic.PureOps.Ideal.Laws
public import Idealize.ShloMosaic.Lib.IdealHost
public import Idealize.ShloMosaic.Lib.Pointwise

@[expose] public section

/-! The mathematics, apart from either program: squared distances of real vectors, the first index that attains a least
value, and the one-hot sum that selects a row. -/

noncomputable section

namespace Nearest

open Idealize.ShloMosaic
open scoped BigOperators

/-! ### Real vectors -/

/-- A finite sum of reals, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The squared distance of two real vectors. -/
def sqDist (w x : Fin 64 → ℝ) : ℝ := ∑ d, (w d - x d) * (w d - x d)

/-- The kernel's form of it: the two squared norms and the product with minus twice the row. -/
theorem kernel_form (w x : Fin 64 → ℝ) :
    ∑ d, (x d : EReal) * x d + ∑ d, (w d : EReal) * w d + ∑ d, (w d : EReal) * ((-2 : ℝ) : EReal) * x d = (sqDist w x : EReal) := by
  simp only [← EReal.coe_mul, ← coe_sum, ← EReal.coe_add]
  congr 1
  unfold sqDist
  rw [← Finset.sum_add_distrib, ← Finset.sum_add_distrib]
  exact Finset.sum_congr rfl fun d _ => by ring

/-- The reference's form of it: the two squared norms less twice the product. -/
theorem reference_form (w x : Fin 64 → ℝ) :
    ∑ d, (x d : EReal) * x d + ∑ d, (w d : EReal) * w d - ((2 : ℝ) : EReal) * ∑ d, (x d : EReal) * w d = (sqDist w x : EReal) := by
  simp only [← EReal.coe_mul, ← coe_sum, ← EReal.coe_add, ← EReal.coe_sub]
  congr 1
  unfold sqDist
  rw [Finset.mul_sum, ← Finset.sum_add_distrib, ← Finset.sum_sub_distrib]
  exact Finset.sum_congr rfl fun d _ => by ring

/-- The sum of the squared differences is the squared distance. -/
theorem sum_form (w x : Fin 64 → ℝ) :
    ∑ d, ((w d : EReal) - x d) * ((w d : EReal) - x d) = (sqDist w x : EReal) := by
  simp only [← EReal.coe_mul, ← coe_sum, ← EReal.coe_sub]
  rfl

/-- Adding the difference to the start gives the end, between reals. -/
theorem add_sub_self (a b : ℝ) : (a : EReal) + ((b : EReal) - a) = b := by
  rw [← EReal.coe_sub, ← EReal.coe_add]; congr 1; ring

/-- The squared distances of one vector to all codebook rows. -/
abbrev dists (wr : Fin 1024 → Fin 64 → ℝ) (v : Fin 64 → ℝ) : Fin 1024 → EReal := fun k => (sqDist (wr k) v : EReal)

/-! ### The first index of a least value -/

/-- `k` is the first index at which `D` is least. -/
def First (D : Fin 1024 → EReal) (k : Fin 1024) : Prop := (∀ j, D k ≤ D j) ∧ ∀ j, D j = D k → k ≤ j

/-- There is one. -/
theorem exists_first (D : Fin 1024 → EReal) : ∃ k, First D k := by
  classical
  obtain ⟨k0, -, h0⟩ := Finset.exists_min_image Finset.univ D ⟨0, Finset.mem_univ _⟩
  obtain ⟨k, hk, hmin⟩ := Finset.exists_min_image (Finset.univ.filter fun j => D j = D k0) id
    ⟨k0, Finset.mem_filter.2 ⟨Finset.mem_univ _, rfl⟩⟩
  have e : D k = D k0 := (Finset.mem_filter.1 hk).2
  refine ⟨k, fun j => e ▸ h0 j (Finset.mem_univ _), fun j hj => hmin j (Finset.mem_filter.2 ⟨Finset.mem_univ _, hj.trans e⟩)⟩

variable {D : Fin 1024 → EReal} {k : Fin 1024}

/-- The least value is the value there. -/
theorem fold_min (h : First D k) : Finset.fold min ⊤ D Finset.univ = D k :=
  le_antisymm ((Finset.fold_min_le _).2 (Or.inr ⟨k, Finset.mem_univ _, le_rfl⟩))
    ((Finset.le_fold_min _).2 ⟨le_top, fun j _ => h.1 j⟩)

/-- The least of the indices that attain the least value, 1024 standing for the others, is that index. -/
theorem fold_idx (h : First D k) :
    Finset.fold min ⊤ (fun j : Fin 1024 => if D j = D k then (((j.val : ℕ) : ℝ) : EReal) else ((1024 : ℝ) : EReal)) Finset.univ
      = ((k.val : ℕ) : ℝ) := by
  refine le_antisymm ((Finset.fold_min_le _).2 (Or.inr ⟨k, Finset.mem_univ _, ?_⟩)) ((Finset.le_fold_min _).2 ⟨le_top, fun j _ => ?_⟩)
  · rw [if_pos rfl]
  · split
    · rename_i e
      exact EReal.coe_le_coe_iff.2 (by exact_mod_cast (h.2 j e))
    · exact EReal.coe_le_coe_iff.2 (by exact_mod_cast k.isLt.le)

/-- An index as a float. -/
theorem sitofp_idx (j : Fin 1024) : (FloatOps.sitofp .f32 (BitVec.ofNat 32 j.val) : Ideal .f32) = (((j.val : ℕ) : ℝ) : EReal) := by
  show (((BitVec.ofNat 32 j.val).toInt : ℝ) : EReal) = _
  have : (BitVec.ofNat 32 j.val).toInt = (j.val : ℤ) := by
    have := j.isLt
    rw [BitVec.toInt_eq_toNat_cond, BitVec.toNat_ofNat]; split <;> omega
  rw [this]; simp

/-- And back. -/
theorem fptosi_idx (j : Fin 1024) : FloatOps.fptosi (F := Ideal) (φ := .f32) 32 (((j.val : ℕ) : ℝ) : EReal) = BitVec.ofNat 32 j.val := by
  show Ideal.fptosi 32 _ = _
  have := j.isLt
  unfold Ideal.fptosi
  rw [Ideal.toIntClamped_coe, if_pos (Nat.cast_nonneg _), Int.floor_natCast]
  rw [show max (-((2 ^ (32 - 1) : ℕ) : ℤ)) (min (((2 ^ (32 - 1) : ℕ) : ℤ) - 1) (j.val : ℤ)) = (j.val : ℤ) by omega]
  exact BitVec.ofInt_natCast ..

/-- Two indices are equal as words exactly when they are equal. -/
theorem ofNat_inj (i j : Fin 1024) : BitVec.ofNat 32 i.val = BitVec.ofNat 32 j.val ↔ i = j := by
  constructor
  · intro h
    have := congrArg BitVec.toNat h
    simp only [BitVec.toNat_ofNat] at this
    have := i.isLt; have := j.isLt
    exact Fin.ext (by omega)
  · rintro rfl; rfl

/-- The one-hot column of an index selects its row. -/
theorem onehot (w : Fin 1024 → EReal) :
    ∑ j : Fin 1024, w j * (FloatOps.sitofp .f32 (BitVec.setWidth 32
      (IntOp.cmpi CmpIPredicate.eq (BitVec.ofNat 32 j.val) (BitVec.ofNat 32 k.val))) : Ideal .f32) = w k := by
  rw [Finset.sum_eq_single k]
  · have : IntOp.cmpi CmpIPredicate.eq (BitVec.ofNat 32 k.val) (BitVec.ofNat 32 k.val) = 1#1 := by simp [IntOp.cmpi]
    rw [this]
    show w k * (((BitVec.setWidth 32 1#1).toInt : ℝ) : EReal) = w k
    rw [show (BitVec.setWidth 32 1#1).toInt = 1 by decide]; simp
  · intro j _ hj
    have : IntOp.cmpi CmpIPredicate.eq (BitVec.ofNat 32 j.val) (BitVec.ofNat 32 k.val) = 0#1 := by
      have : BitVec.ofNat 32 j.val ≠ BitVec.ofNat 32 k.val := fun h => hj ((ofNat_inj j k).1 h)
      simp only [IntOp.cmpi, beq_eq_false_iff_ne.2 this, BitVec.ofBool_false]; rfl
    rw [this]
    show w j * (((BitVec.setWidth 32 0#1).toInt : ℝ) : EReal) = 0
    rw [show (BitVec.setWidth 32 0#1).toInt = 0 by decide]; simp
  · intro h; exact absurd (Finset.mem_univ _) h

/-! ### Constants -/

/-- The f32 pattern of the positive infinity. -/
theorem ofBits_top : Ideal.ofBits .f32 0x7F800000#32 = ⊤ := by simp [Ideal.ofBits, Ideal.ieee]

/-- The f32 pattern of two. -/
theorem ofBits_two : Ideal.ofBits .f32 0x40000000#32 = ((2 : ℝ) : EReal) := by
  simp [Ideal.ofBits, Ideal.ieee, -EReal.coe_mul]; norm_num

/-- The f32 pattern of minus two. -/
theorem ofBits_neg_two : Ideal.ofBits .f32 0xC0000000#32 = ((-2 : ℝ) : EReal) := by
  simp [Ideal.ofBits, Ideal.ieee, -EReal.coe_mul, -EReal.coe_neg]; norm_num

/-- The f32 pattern of 1024. -/
theorem ofBits_1024 : Ideal.ofBits .f32 0x44800000#32 = ((1024 : ℝ) : EReal) := by
  simp [Ideal.ofBits, Ideal.ieee, -EReal.coe_mul]; norm_num

end Nearest

end
-- ==== Proof.Rows.lean ====
module

public import proofs.«01_k».proof.Proof.Body
public import proofs.«01_k».proof.Proof.Nearest

@[expose] public section

/-! The body's pieces at an index, over the ideal values and finite arguments: the distances are the squared distances, and
each row's index is the first of the least of them. -/

set_option maxRecDepth 16384

noncomputable section

namespace Ker

open Cert.KernelIdeal Cert.KernelIdeal.Gen Idealize.ShloMosaic Idealize.ShloMosaic.TcCoe Idealize.SL.Sem Nearest

section Row

variable {w : Vec Ideal S1024x64 .f32} {x : Vec Ideal S1x64x2048 .f32}
  {wr : Fin 1024 → Fin 64 → ℝ} {xr : Fin 64 → Fin 2048 → ℝ}
  (hw : ∀ k d, w (ix2 k d) = (wr k d : EReal)) (hx : ∀ d t, x (ix3 0 d t) = (xr d t : EReal))

include hw hx

/-- A distance is the squared distance. -/
theorem kDist_at (k : Fin 1024) (t : Fin 2048) : kDist w x (ix2 k t) = dists wr (fun d => xr d t) k := by
  pointwise [kDist, k0_pay10, k0_pay7, k0_pay5]
  simp only [hw, hx, ofBits_neg_two]
  exact kernel_form (wr k) fun d => xr d t

/-- The least distance is that of the first nearest row. -/
theorem kMin_at {t : Fin 2048} {k : Fin 1024} (h : First (dists wr fun d => xr d t) k) (z : Fin 1) :
    kMin w x (ix2 z t) = dists wr (fun d => xr d t) k := by
  unfold kMin k0_pay11
  rw [show k0_pay10 x (k0_pay7 w) (k0_pay5 w) = kDist w x from rfl]
  pointwise
  simp only [kDist_at hw hx, ofBits_top]
  exact fold_min h

/-- The index, before it is stored, is that row's. -/
theorem kIdx_row {t : Fin 2048} {k : Fin 1024} (h : First (dists wr fun d => xr d t) k) (z : Fin 1) :
    k0_pay12 x (k0_pay7 w) (k0_pay5 w) (k0_pay9 (F := Ideal)) (ix2 z t) = BitVec.ofNat 32 k.val := by
  unfold k0_pay12
  rw [show k0_pay10 x (k0_pay7 w) (k0_pay5 w) = kDist w x from rfl, show k0_pay11 x (k0_pay7 w) (k0_pay5 w) = kMin w x from rfl]
  pointwise [k0_pay9]
  simp only [kDist_at hw hx, kMin_at hw hx h, ofBits_top, ofBits_1024, sitofp_idx]
  rw [fold_idx h]
  exact fptosi_idx k

/-- The index stored is that row's. -/
theorem kIdx_at {t : Fin 2048} {k : Fin 1024} (h : First (dists wr fun d => xr d t) k) (z y : Fin 1) :
    kIdx w x (ix3 z y t) = BitVec.ofNat 32 k.val := by
  unfold kIdx k0_pay13
  pointwise
  exact kIdx_row hw hx h 0

/-- The vector stored is that row. -/
theorem kQ_at {t : Fin 2048} {k : Fin 1024} (h : First (dists wr fun d => xr d t) k) (z : Fin 1) (d : Fin 64) :
    kQ w x (ix3 z d t) = w (ix2 k d) := by
  unfold kQ k0_pay15 k0_pay14 k0_pay6
  pointwise
  rw [kIdx_row hw hx h 0]
  exact onehot fun j => w (ix2 j d)

end Row

/-! ### The block of two rows -/

/-- Row 0 at an index. -/
theorem row0_at (x : Vec Ideal S2x64x2048 .f32) (z : Fin 1) (d : Fin 64) (t : Fin 2048) : row0 x (ix3 z d t) = x (ix3 0 d t) := by
  pointwise [row0]

/-- Row 1 at an index. -/
theorem row1_at (x : Vec Ideal S2x64x2048 .f32) (z : Fin 1) (d : Fin 64) (t : Fin 2048) : row1 x (ix3 z d t) = x (ix3 1 d t) := by
  pointwise [row1]

/-- An index of a one-row block, from its last two coordinates. -/
theorem idx_eq {n : ℕ} {r : Fin 2} {a : Fin n} {b : Fin 2048} {y : (⟨3, ![1, n, 2048]⟩ : Shape).Idx}
    (h1 : ((ix3 r a b 1 : Fin n) : ℕ) = y 1) (h2 : ((ix3 r a b 2 : Fin 2048) : ℕ) = y 2) : y = ix3 0 a b := by
  funext i
  match i with
  | 0 => exact Subsingleton.elim (α := Fin 1) _ _
  | 1 => exact Fin.ext h1.symm
  | 2 => exact Fin.ext h2.symm

section Block

variable {w : Vec Ideal S1024x64 .f32} {x : Vec Ideal S2x64x2048 .f32}
  {wr : Fin 1024 → Fin 64 → ℝ} {xr : Fin 2 → Fin 64 → Fin 2048 → ℝ}
  (hw : ∀ k d, w (ix2 k d) = (wr k d : EReal)) (hx : ∀ r d t, x (ix3 r d t) = (xr r d t : EReal))

include hw hx

/-- The block of nearest rows. -/
theorem qBlk_at {r : Fin 2} {t : Fin 2048} {k : Fin 1024} (h : First (dists wr fun d => xr r d t) k) (d : Fin 64) :
    qBlk w x (ix3 r d t) = w (ix2 k d) := by
  unfold qBlk
  canon_tiles y hy
  · obtain rfl : r = 1 := Fin.ext (by simpa [Nat.lt_one_iff.1 y0_lt] using hy0)
    rw [idx_eq hy1 hy2]
    exact kQ_at hw (fun d t => (row1_at x 0 d t).trans (hx 1 d t)) h 0 d
  · obtain rfl : r = 0 := Fin.ext (by simpa [Nat.lt_one_iff.1 y0_lt] using hy0)
    rw [idx_eq hy1 hy2]
    exact kQ_at hw (fun d t => (row0_at x 0 d t).trans (hx 0 d t)) h 0 d

/-- The block of indices. -/
theorem idxBlk_at {r : Fin 2} {t : Fin 2048} {k : Fin 1024} (h : First (dists wr fun d => xr r d t) k) (z : Fin 1) :
    idxBlk w x (ix3 r z t) = BitVec.ofNat 32 k.val := by
  unfold idxBlk
  canon_tiles y hy
  · obtain rfl : r = 1 := Fin.ext (by simpa [Nat.lt_one_iff.1 y0_lt] using hy0)
    rw [idx_eq hy1 hy2]
    exact kIdx_at hw (fun d t => (row1_at x 0 d t).trans (hx 1 d t)) h 0 z
  · obtain rfl : r = 0 := Fin.ext (by simpa [Nat.lt_one_iff.1 y0_lt] using hy0)
    rw [idx_eq hy1 hy2]
    exact kIdx_at hw (fun d t => (row0_at x 0 d t).trans (hx 0 d t)) h 0 z

/-- What a point adds to the accumulated distances. -/
theorem accStep_at {t : Fin 2048} {k0 k1 : Fin 1024} (h0 : First (dists wr fun d => xr 0 d t) k0)
    (h1 : First (dists wr fun d => xr 1 d t) k1) (a : Vec Ideal S1x2048 .f32) (z : Fin 1) :
    accStep w x a (ix2 z t) = a (ix2 z t) + dists wr (fun d => xr 0 d t) k0 + dists wr (fun d => xr 1 d t) k1 := by
  unfold accStep k0_pay4 k0_pay16
  pointwise
  rw [kMin_at hw (fun d t => (row0_at x 0 d t).trans (hx 0 d t)) h0, kMin_at hw (fun d t => (row1_at x 0 d t).trans (hx 1 d t)) h1]

end Block

end Ker

end
-- ==== Proof.Arrays.lean ====
module

public import proofs.«01_k».proof.Proof.Rows

@[expose] public section

/-! The kernel's three arrays after the last grid point, over the ideal values and finite arguments: the nearest rows, their
indices, and per time step the sum over the batches of the least squared distances. -/

set_option maxRecDepth 16384

noncomputable section

namespace Ker

open Cert.KernelIdeal Cert.KernelIdeal.Gen Idealize.ShloMosaic Idealize.ShloMosaic.TcCoe Idealize.SL.Sem Nearest

/-- The latents. -/
abbrev xOf (m : (ℓ : Loc nD τ sig) → Buf (Elt Ideal) ℓ) (c : Dev nD) : Vec Ideal S16x64x2048 .f32 :=
  m ((c.tc : Thread nD τ).loc main_arg0)

/-- The batch of a row of a point's block. -/
abbrev bat (n : ℕ) (hn : n < 8) (r : Fin 2) : Fin 16 := ⟨n * 2 + r.val, by omega⟩

/-- There are eight points. -/
theorem point_lt (t : Fin cfg0.N) : t.val < 8 := lt_of_lt_of_eq t.isLt (show cfg0.N = 8 from N_0)

section Arrays

variable {m : (ℓ : Loc nD τ sig) → Buf (Elt Ideal) ℓ} {c : Dev nD}

/-- A point's block of the latents is two batches of them. -/
theorem iblk_x (t : Fin cfg0.N) (r : Fin 2) (d : Fin 64) (s : Fin 2048) :
    iblk m c 0 t (ix3 r d s) = xOf m c (ix3 (bat t.val (point_lt t) r) d s) := by
  have e : ∀ t : Fin grid0.N, win0_0.index t = ![t.val, 0, 0] := by decide +kernel
  blk_ext [iblk, V, e t]

variable {xr : Fin 16 → Fin 64 → Fin 2048 → ℝ} {wr : Fin 1024 → Fin 64 → ℝ} {K : Fin 16 → Fin 2048 → Fin 1024}
  (hx : ∀ b d t, xOf m c (ix3 b d t) = (xr b d t : EReal)) (hw : ∀ k d, wOf m c (ix2 k d) = (wr k d : EReal))
  (hK : ∀ b t, First (dists wr fun d => xr b d t) (K b t))

include hx hw hK

/-- The first array: the nearest rows. -/
theorem q_final : (dats m 0 c).arrAt 2 cfg0.N = fun i : S16x64x2048.Idx => (wr (K (i 0) (i 2)) (i 1) : EReal) := by
  have e : ∀ t : Fin grid0.N, win0_2.index t = ![t.val, 0, 0] := by decide +kernel
  refine (dats m 0 c).arrAt_eq_of_covers 2 _ (by decide +kernel) fun t hf y => ?_
  blk_simp
  rw [after0_2, qAt]
  have h0 : (win0_2.blk t).view.emb y 0 = bat t.val (point_lt t) (y 0) := Fin.ext (by blk_simp [e t]; try rfl)
  have h1 : (win0_2.blk t).view.emb y 1 = y 1 := Fin.ext (by blk_simp [e t]; try simp)
  have h2 : (win0_2.blk t).view.emb y 2 = y 2 := Fin.ext (by blk_simp [e t]; try simp)
  rw [h0, h1, h2]
  exact (congrArg _ (ValueIdx.eq_ix3 (n0 := 2) (n1 := 64) (n2 := 2048) y)).trans ((qBlk_at hw (fun r d s => (iblk_x t r d s).trans (hx _ d s)) (hK _ _) _).trans (hw _ _))

/-- The second array: the nearest rows' indices. -/
theorem idx_final : (dats m 0 c).arrAt 3 cfg0.N = fun i : S16x1x2048.Idx => BitVec.ofNat 32 (K (i 0) (i 2)).val := by
  have e : ∀ t : Fin grid0.N, win0_3.index t = ![t.val, 0, 0] := by decide +kernel
  refine (dats m 0 c).arrAt_eq_of_covers 3 _ (by decide +kernel) fun t hf y => ?_
  blk_simp
  rw [after0_3, idxAt]
  have h0 : (win0_3.blk t).view.emb y 0 = bat t.val (point_lt t) (y 0) := Fin.ext (by blk_simp [e t]; try rfl)
  have h2 : (win0_3.blk t).view.emb y 2 = y 2 := Fin.ext (by blk_simp [e t]; try simp)
  rw [h0, h2]
  exact (congrArg _ (ValueIdx.eq_ix3 (n0 := 2) (n1 := 1) (n2 := 2048) y)).trans (idxBlk_at hw (fun r d s => (iblk_x t r d s).trans (hx _ d s)) (hK _ _) _)

/-- The accumulated distances after a point: those of the batches met so far. -/
theorem acc_at (s : Fin 2048) (z : Fin 1) : ∀ (n : ℕ) (hn : n < cfg0.N), (outsAt0 m c n hn).2.2.1 (ix2 z s)
    = ∑ b ∈ Finset.range ((n + 1) * 2), (if h : b < 16 then dists wr (fun d => xr ⟨b, h⟩ d s) (K ⟨b, h⟩ s) else 0)
  | 0, hn => by
    rw [acc_zero, accStep_at hw (fun r d t => (iblk_x _ r d t).trans (hx _ d t)) (hK _ s) (hK _ s)]
    rw [show ((0 + 1) * 2 : ℕ) = 0 + 1 + 1 from rfl, Finset.sum_range_succ, Finset.sum_range_succ, Finset.sum_range_zero]
    rw [dif_pos (by decide), dif_pos (by decide), show k0_pay8 (F := Ideal) (ix2 z s) = (0 : EReal) from Ideal.ofBits_zero_f32]
    rfl
  | n + 1, hn => by
    have hN := point_lt ⟨n + 1, hn⟩
    rw [acc_succ, accStep_at hw (fun r d t => (iblk_x _ r d t).trans (hx _ d t)) (hK _ s) (hK _ s), acc_at s z n,
      show ((n + 1 + 1) * 2 : ℕ) = (n + 1) * 2 + 1 + 1 from by omega, Finset.sum_range_succ _ ((n + 1) * 2 + 1),
      Finset.sum_range_succ _ ((n + 1) * 2), dif_pos (by simp at hN; omega), dif_pos (by simp at hN; omega)]
    rfl

/-- The third array: per time step the sum over the batches. -/
theorem acc_final : (dats m 0 c).arrAt 4 cfg0.N
    = fun i : S1x2048.Idx => (∑ b : Fin 16, dists wr (fun d => xr b d (i 1)) (K b (i 1)) : EReal) := by
  refine (dats m 0 c).arrAt_eq_of_after_last 4 t0_7 (by decide +kernel) _ fun j => ?_
  blk_simp
  rw [after0_4]
  refine (congrArg _ (ValueIdx.eq_ix2 (n0 := 1) (n1 := 2048) j)).trans ((acc_at hx hw hK _ _ _ _).trans ?_)
  rw [show ((t0_7.val + 1) * 2 : ℕ) = 16 from rfl, Finset.sum_range]
  exact Finset.sum_congr rfl fun b _ => dif_pos b.isLt

end Arrays

end Ker

end
-- ==== Proof.KerRun.lean ====
module

public import proofs.«01_k».proof.Proof.Gen.KernelIdeal.Frame
public import Idealize.ShloMosaic.Lib.Pipeline.ValueKit
public import Idealize.ShloMosaic.Lib.StableHlo.Run
public import Idealize.ShloMosaic.Lib.Pointwise

@[expose] public section

/-! The kernel's results after the run, from the three arrays that the grid leaves. -/

set_option maxRecDepth 16384

noncomputable section

namespace Ker

open Cert.KernelIdeal Cert.KernelIdeal.Gen Idealize.ShloMosaic Idealize.ShloMosaic.TcCoe Idealize.SL.Sem

variable {F : FTy → Type} [FloatOps F]

/-- The mean of the accumulated distances. -/
def kMse (a : Vec F S1x2048 .f32) : Vec F S_ .f32 :=
  Host.divf (Host.reduceAdd a (constant S_ .f32 0x00000000#32) reducesTo_S1x2048_S_d0_1 h_S_) (constant S_ .f32 0x4A000000#32)

/-- The loss: the mean plus a quarter of it. -/
def kLoss (a : Vec F S1x2048 .f32) : Vec F S_ .f32 :=
  addf (kMse a) (mulf (constant S_ .f32 0x3E800000#32) (kMse a))

/-- The indices without their unit axis. -/
def kIndices (i : IVec S16x1x2048 32) : IVec S16x2048 32 := shapeCast S16x2048 i shapeCasts_S16x1x2048_S16x2048

variable (m : (ℓ : Loc nD τ sig) → Buf (Elt F) ℓ) (ρ : Dev nD → PrngReg)

/-- The loss after the lines that follow the grid. -/
theorem tail_v4 (c : Dev nD) : Pipeline.afterTail₀ cfgs (dats m) 0 (V0 m) [hostOps1] c main_v4 = kLoss ((dats m 0 c).arrAt 4 cfg0.N) := by
  unfold Pipeline.afterTail₀
  show StableHlo.after hostOps1 _ _ = _
  after_results_simp
  have h : Pipeline.withArrays (cfgs 0).spec c (V0 m c) (fun w => (dats m 0 c).arrAt w (cfgs 0).N) (Proc.tc.devRef main_v0_2)
      = (dats m 0 c).arrAt 4 cfg0.N := Pipeline.withArrays_arr spec0 (by decide) c _ _ 4
  rw [h]
  rfl

/-- The indices after them. -/
theorem tail_v5 (c : Dev nD) : Pipeline.afterTail₀ cfgs (dats m) 0 (V0 m) [hostOps1] c main_v5 = kIndices ((dats m 0 c).arrAt 3 cfg0.N) := by
  unfold Pipeline.afterTail₀
  show StableHlo.after hostOps1 _ _ = _
  after_results_simp
  have h : Pipeline.withArrays (cfgs 0).spec c (V0 m c) (fun w => (dats m 0 c).arrAt w (cfgs 0).N) (Proc.tc.devRef main_v0_1)
      = (dats m 0 c).arrAt 3 cfg0.N := Pipeline.withArrays_arr spec0 (by decide) c _ _ 3
  rw [h]
  rfl

/-- The mean at an index. -/
theorem kMse_at (a : Vec Ideal S1x2048 .f32) (z : S_.Idx) :
    kMse a z = Ideal.div (∑ s : Fin 2048, (a (ix2 0 s) : EReal)) (Ideal.ofBits .f32 0x4A000000#32) := by
  pointwise [kMse]
  rw [Fintype.sum_subsingleton _ (0 : Fin 1)]

/-- The indices at an index. -/
theorem kIndices_at (i : IVec S16x1x2048 32) (b : Fin 16) (t : Fin 2048) : kIndices i (ix2 b t) = i (ix3 b 0 t) := by
  pointwise [kIndices]

/-- The run: the results, and the arguments kept. -/
theorem run : θ_run defs (onTc (τ := τ) (main (F := F))) ⟨m, fun _ => 0, ρ⟩ fun r => ∀ c : Dev nD,
    r.2.mem ((c.tc : Thread nD τ).loc main_v0_0) = (dats m 0 c).arrAt 2 cfg0.N
    ∧ r.2.mem ((c.tc : Thread nD τ).loc main_v4) = kLoss ((dats m 0 c).arrAt 4 cfg0.N)
    ∧ r.2.mem ((c.tc : Thread nD τ).loc main_v5) = kIndices ((dats m 0 c).arrAt 3 cfg0.N) :=
  θ_run_mono (run_main m ρ) fun r h c =>
    ⟨(h c).1 2, ((h c).2 main_v4 (by decide)).trans (tail_v4 m c), ((h c).2 main_v5 (by decide)).trans (tail_v5 m c)⟩

end Ker

end
-- ==== Proof.RefRun.lean ====
module

public import proofs.«01_k».proof.Proof.Gen.ReferenceIdeal
public import Idealize.ShloMosaic.Lib.StableHlo.Run
public import Idealize.ShloMosaic.Lib.Pipeline.Frame

@[expose] public section

/-! The reference's run, read back. Its host operations are listed in three parts — the distances and the
nearest row's index; the rows taken at those indices; the three results — and each part is read at what the next one uses. -/

set_option maxRecDepth 16384

noncomputable section

namespace Ref

open Cert.ReferenceIdeal Cert.ReferenceIdeal.Gen Idealize.ShloMosaic Idealize.ShloMosaic.TcCoe Idealize.SL.Sem Idealize.ShloMosaic.StableHlo

variable {F : FTy → Type} [FloatOps F]

/-- An array of shape `S` and element type `e`. -/
abbrev Arr (F : FTy → Type) (S : Shape) (e : EltTy) : Type := (⟨S, e⟩ : BufTy).Contents (Elt F)

/-! ### The composed terms -/

/-- The latents with the channel last. -/
def xt (x : Arr F S16x64x2048 .f32) : Arr F S16x2048x64 .f32 :=
  transpose S16x2048x64 [0, 2, 1] x transposes_S16x64x2048_S16x2048x64_0_2_1

/-- The latents as a list of 32768 rows. -/
def flat (x : Arr F S16x64x2048 .f32) : Arr F S32768x64 .f32 :=
  shapeCast S32768x64 (xt x) shapeCasts_S16x2048x64_S32768x64

/-- The squared distance of every row to every codebook row. -/
def dist (x : Arr F S16x64x2048 .f32) (w : Arr F S1024x64 .f32) : Arr F S32768x1024 .f32 :=
  subf
    (addf
      (broadcastInDim S32768x1024 ![0, 1] bcast_S32768x1_S32768x1024_0_1
        (broadcastInDim S32768x1 ![0] bcast_S32768_S32768x1_0
          (Host.reduceAdd (mulf (flat x) (flat x)) (constant S_ .f32 0x00000000#32) reducesTo_S32768x64_S32768_d1 h_S_)))
      (broadcastInDim S32768x1024 ![0, 1] bcast_S1x1024_S32768x1024_0_1
        (broadcastInDim S1x1024 ![1] bcast_S1024_S1x1024_1
          (Host.reduceAdd (mulf w w) (constant S_ .f32 0x00000000#32) reducesTo_S1024x64_S1024_d1 h_S_))))
    (mulf (broadcastInDim S32768x1024 ![] bcast_S_S32768x1024 (constant S_ .f32 0x40000000#32))
      (Host.dotGeneral dot_S32768x64_S64x1024_S32768x1024_1_0_0_1_n_n none (flat x)
        (transpose S64x1024 [1, 0] w transposes_S1024x64_S64x1024_1_0)))

/-- The index of the nearest codebook row, from the distances. -/
def argmin (d : Arr F S32768x1024 .f32) : Arr F S32768 .i32 := fun j =>
  (Host.argReduce reducer_argmin_f32_i32 d (iotaInDim S32768x1024 32 1) (constant S_ .f32 0x7F800000#32)
    (constantI S_ 32 0#32) reducesTo_S32768x1024_S32768_d1 h_S_ j).2

/-- The indices with a negative one counted from the end, as a column. -/
def wrap (i : Arr F S32768 .i32) : Arr F S32768x1 .i32 :=
  broadcastInDim S32768x1 ![0] bcast_S32768_S32768x1_0
    (select (cmpi .slt i (broadcastInDim S32768 ![] bcast_S_S32768 (constantI S_ 32 0#32)))
      (addi i (broadcastInDim S32768 ![] bcast_S_S32768 (constantI S_ 32 1024#32))) i)

/-- Whether each index is that of a codebook row. -/
def inRange (i : Arr F S32768 .i32) : Arr F S32768 .i1 :=
  Host.reduce IntOp.andi
    (andi (cmpi .sge (wrap (F := F) i) (broadcastInDim S32768x1 ![] bcast_S_S32768x1 (constantI S_ 32 0#32)))
      (cmpi .sle (wrap (F := F) i) (broadcastInDim S32768x1 ![0, 1] bcast_S1x1_S32768x1_0_1
        (broadcastInDim S1x1 ![1] bcast_S1_S1x1_1 (constantI S1 32 1023#32)))))
    (constantI S_ 1 1#1) reducesTo_S32768x1_S32768_d1 h_S_

/-- The codebook rows taken at the indices, NaN where an index is out of range. -/
def take (w : Arr F S1024x64 .f32) (i : Arr F S32768 .i32) : Arr F S32768x64 .f32 :=
  select (broadcastInDim S32768x64 ![0] bcast_S32768_S32768x64_0 (inRange (F := F) i))
    (Host.gather gather_S1024x64_S32768x1_S32768x64_1_0_n_n_0_1_164 w (wrap (F := F) i))
    (broadcastInDim S32768x64 ![] bcast_S_S32768x64 (constant S_ .f32 0x7FC00000#32))

/-- The rows taken, in the latents' batches. -/
def quant (t : Arr F S32768x64 .f32) : Arr F S16x2048x64 .f32 :=
  shapeCast S16x2048x64 t shapeCasts_S32768x64_S16x2048x64

/-- The mean of the squared differences. -/
def mse (q y : Arr F S16x2048x64 .f32) : Arr F S_ .f32 :=
  Host.divf (Host.reduceAdd (mulf (subf q y) (subf q y)) (constant S_ .f32 0x00000000#32) reducesTo_S16x2048x64_S_d0_1_2 h_S_)
    (constant S_ .f32 0x4A000000#32)

/-- The loss: the mean plus a quarter of it. -/
def loss (q y : Arr F S16x2048x64 .f32) : Arr F S_ .f32 :=
  addf (mse q y) (mulf (constant S_ .f32 0x3E800000#32) (mse q y))

/-- The quantised latents, the channel moved back to the middle. -/
def out (q y : Arr F S16x2048x64 .f32) : Arr F S16x64x2048 .f32 :=
  transpose S16x64x2048 [0, 2, 1] (addf y (subf q y)) transposes_S16x2048x64_S16x64x2048_0_2_1

/-- The indices, one row per batch. -/
def idx (i : Arr F S32768 .i32) : Arr F S16x2048 .i32 := shapeCast S16x2048 i shapeCasts_S32768_S16x2048

/-! ### The operations -/

/-- The operations up to the distances. -/
abbrev opsDist : List (HloOp τ sig (Elt F)) :=
  [ unary main_arg0 main_v0 ((transpose S16x2048x64 [0, 2, 1] · transposes_S16x64x2048_S16x2048x64_0_2_1) : (⟨S16x64x2048, .f32⟩ : BufTy).Contents (Elt F) → (⟨S16x2048x64, .f32⟩ : BufTy).Contents (Elt F)),
    reshape main_v0 main_v1 (rfl : (.f32 : EltTy) = .f32) shapeCasts_S16x2048x64_S32768x64,
    binary main_v1 main_v1 main_v2 (mulf : (⟨S32768x64, .f32⟩ : BufTy).Contents (Elt F) → (⟨S32768x64, .f32⟩ : BufTy).Contents (Elt F) → (⟨S32768x64, .f32⟩ : BufTy).Contents (Elt F)),
    nullary main_cst (constant S_ .f32 0x00000000#32),
    binary main_v2 main_cst main_v3 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
    unary main_v3 main_v4 (broadcastInDim S32768x1 ![0] bcast_S32768_S32768x1_0 : (⟨S32768, .f32⟩ : BufTy).Contents (Elt F) → (⟨S32768x1, .f32⟩ : BufTy).Contents (Elt F)),
    binary main_arg1 main_arg1 main_v5 (mulf : (⟨S1024x64, .f32⟩ : BufTy).Contents (Elt F) → (⟨S1024x64, .f32⟩ : BufTy).Contents (Elt F) → (⟨S1024x64, .f32⟩ : BufTy).Contents (Elt F)),
    nullary main_cst_0 (constant S_ .f32 0x00000000#32),
    binary main_v5 main_cst_0 main_v6 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v6 main_v7 (broadcastInDim S1x1024 ![1] bcast_S1024_S1x1024_1 : (⟨S1024, .f32⟩ : BufTy).Contents (Elt F) → (⟨S1x1024, .f32⟩ : BufTy).Contents (Elt F)),
    unary main_v4 main_v8 (broadcastInDim S32768x1024 ![0, 1] bcast_S32768x1_S32768x1024_0_1 : (⟨S32768x1, .f32⟩ : BufTy).Contents (Elt F) → (⟨S32768x1024, .f32⟩ : BufTy).Contents (Elt F)),
    unary main_v7 main_v9 (broadcastInDim S32768x1024 ![0, 1] bcast_S1x1024_S32768x1024_0_1 : (⟨S1x1024, .f32⟩ : BufTy).Contents (Elt F) → (⟨S32768x1024, .f32⟩ : BufTy).Contents (Elt F)),
    binary main_v8 main_v9 main_v10 (addf : (⟨S32768x1024, .f32⟩ : BufTy).Contents (Elt F) → (⟨S32768x1024, .f32⟩ : BufTy).Contents (Elt F) → (⟨S32768x1024, .f32⟩ : BufTy).Contents (Elt F)),
    unary main_arg1 main_v11 ((transpose S64x1024 [1, 0] · transposes_S1024x64_S64x1024_1_0) : (⟨S1024x64, .f32⟩ : BufTy).Contents (Elt F) → (⟨S64x1024, .f32⟩ : BufTy).Contents (Elt F)),
    binary main_v1 main_v11 main_v12 ((fun l r => Host.dotGeneral dot_S32768x64_S64x1024_S32768x1024_1_0_0_1_n_n none l r) : (⟨S32768x64, .f32⟩ : BufTy).Contents (Elt F) → (⟨S64x1024, .f32⟩ : BufTy).Contents (Elt F) → (⟨S32768x1024, .f32⟩ : BufTy).Contents (Elt F)),
    nullary main_cst_1 (constant S_ .f32 0x40000000#32),
    unary main_cst_1 main_v13 (broadcastInDim S32768x1024 ![] bcast_S_S32768x1024 : (⟨S_, .f32⟩ : BufTy).Contents (Elt F) → (⟨S32768x1024, .f32⟩ : BufTy).Contents (Elt F)),
    binary main_v13 main_v12 main_v14 (mulf : (⟨S32768x1024, .f32⟩ : BufTy).Contents (Elt F) → (⟨S32768x1024, .f32⟩ : BufTy).Contents (Elt F) → (⟨S32768x1024, .f32⟩ : BufTy).Contents (Elt F)),
    binary main_v10 main_v14 main_v15 (subf : (⟨S32768x1024, .f32⟩ : BufTy).Contents (Elt F) → (⟨S32768x1024, .f32⟩ : BufTy).Contents (Elt F) → (⟨S32768x1024, .f32⟩ : BufTy).Contents (Elt F)) ]

/-- Their buffers are the program's. -/
theorem opsDist_sub : (opsDist : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub ..⟩

/-- The operations of the nearest row's index. -/
abbrev opsArgmin : List (HloOp τ sig (Elt F)) :=
  [ TRef.nullary (TRef.of (T := ⟨S32768x1024, .i32⟩) main_call0_v0) (iotaInDim S32768x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S32768x1024, .f32⟩) main_v15) (TRef.of (T := ⟨S32768x1024, .i32⟩) main_call0_v0) (TRef.of (T := ⟨S_, .f32⟩) main_call0_cst) (TRef.of (T := ⟨S_, .i32⟩) main_call0_c) (TRef.of (T := ⟨S32768, .f32⟩) main_call0_v1_0) (fun x y u v j => (Host.argReduce reducer_argmin_f32_i32 x y u v reducesTo_S32768x1024_S32768_d1 h_S_ j).1),
    TRef.quaternary (TRef.of (T := ⟨S32768x1024, .f32⟩) main_v15) (TRef.of (T := ⟨S32768x1024, .i32⟩) main_call0_v0) (TRef.of (T := ⟨S_, .f32⟩) main_call0_cst) (TRef.of (T := ⟨S_, .i32⟩) main_call0_c) (TRef.of (T := ⟨S32768, .i32⟩) main_v16) (fun x y u v j => (Host.argReduce reducer_argmin_f32_i32 x y u v reducesTo_S32768x1024_S32768_d1 h_S_ j).2) ]

/-- Their buffers are the program's. -/
theorem opsArgmin_sub : (opsArgmin : List (HloOp τ sig (Elt F))).Forall fun op => op.bufs ⊆ tcRefs τ sig :=
  ⟨nullary_bufs_sub .., nullary_bufs_sub .., nullary_bufs_sub .., quaternary_bufs_sub .., quaternary_bufs_sub ..⟩

/-- The operations that take the rows. -/
abbrev opsTake : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S32768, .i32⟩) main_call1_v0) (broadcastInDim S32768 ![] bcast_S_S32768),
    TRef.binary (TRef.of (T := ⟨S32768, .i32⟩) main_v16) (TRef.of (T := ⟨S32768, .i32⟩) main_call1_v0) (TRef.of (T := ⟨S32768, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S32768, .i32⟩) main_call1_v2) (broadcastInDim S32768 ![] bcast_S_S32768),
    TRef.binary (TRef.of (T := ⟨S32768, .i32⟩) main_v16) (TRef.of (T := ⟨S32768, .i32⟩) main_call1_v2) (TRef.of (T := ⟨S32768, .i32⟩) main_call1_v3) addi,
    TRef.ternary (TRef.of (T := ⟨S32768, .i1⟩) main_call1_v1) (TRef.of (T := ⟨S32768, .i32⟩) main_call1_v3) (TRef.of (T := ⟨S32768, .i32⟩) main_v16) (TRef.of (T := ⟨S32768, .i32⟩) main_call1_v4) select,
    TRef.unary (TRef.of (T := ⟨S32768, .i32⟩) main_call1_v4) (TRef.of (T := ⟨S32768x1, .i32⟩) main_call1_v5) (broadcastInDim S32768x1 ![0] bcast_S32768_S32768x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S32768x1, .i32⟩) main_call1_v6) (broadcastInDim S32768x1 ![] bcast_S_S32768x1),
    TRef.binary (TRef.of (T := ⟨S32768x1, .i32⟩) main_call1_v5) (TRef.of (T := ⟨S32768x1, .i32⟩) main_call1_v6) (TRef.of (T := ⟨S32768x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S32768x1, .i32⟩) main_call1_v9) (broadcastInDim S32768x1 ![0, 1] bcast_S1x1_S32768x1_0_1),
    TRef.binary (TRef.of (T := ⟨S32768x1, .i32⟩) main_call1_v5) (TRef.of (T := ⟨S32768x1, .i32⟩) main_call1_v9) (TRef.of (T := ⟨S32768x1, .i1⟩) main_call1_v10) (cmpi .sle),
    TRef.binary (TRef.of (T := ⟨S32768x1, .i1⟩) main_call1_v7) (TRef.of (T := ⟨S32768x1, .i1⟩) main_call1_v10) (TRef.of (T := ⟨S32768x1, .i1⟩) main_call1_v11) andi,
    TRef.nullary (TRef.of (T := ⟨S_, .i1⟩) main_call1_c_3) (constantI S_ 1 1#1),
    TRef.binary (TRef.of (T := ⟨S32768x1, .i1⟩) main_call1_v11) (TRef.of (T := ⟨S_, .i1⟩) main_call1_c_3) (TRef.of (T := ⟨S32768, .i1⟩) main_call1_v12) (fun x v => Host.reduce IntOp.andi x v reducesTo_S32768x1_S32768_d1 h_S_),
    TRef.binary (TRef.of (T := ⟨S1024x64, .f32⟩) main_arg1) (TRef.of (T := ⟨S32768x1, .i32⟩) main_call1_v5) (TRef.of (T := ⟨S32768x64, .f32⟩) main_call1_v13) (fun x i => Host.gather gather_S1024x64_S32768x1_S32768x64_1_0_n_n_0_1_164 x i),
    TRef.unary (TRef.of (T := ⟨S32768, .i1⟩) main_call1_v12) (TRef.of (T := ⟨S32768x64, .i1⟩) main_call1_v14) (broadcastInDim S32768x64 ![0] bcast_S32768_S32768x64_0),
    TRef.nullary (TRef.of (T := ⟨S_, .f32⟩) main_call1_cst) (constant S_ .f32 0x7FC00000#32),
    TRef.unary (TRef.of (T := ⟨S_, .f32⟩) main_call1_cst) (TRef.of (T := ⟨S32768x64, .f32⟩) main_call1_v15) (broadcastInDim S32768x64 ![] bcast_S_S32768x64),
    TRef.ternary (TRef.of (T := ⟨S32768x64, .i1⟩) main_call1_v14) (TRef.of (T := ⟨S32768x64, .f32⟩) main_call1_v13) (TRef.of (T := ⟨S32768x64, .f32⟩) main_call1_v15) (TRef.of (T := ⟨S32768x64, .f32⟩) main_v17) select ]

/-- Their buffers are the program's. -/
theorem opsTake_sub : (opsTake : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The operations of the results. -/
abbrev opsOut : List (HloOp τ sig (Elt F)) :=
  [ reshape main_v17 main_v18 (rfl : (.f32 : EltTy) = .f32) shapeCasts_S32768x64_S16x2048x64,
    binary main_v18 main_v0 main_v19 (subf : (⟨S16x2048x64, .f32⟩ : BufTy).Contents (Elt F) → (⟨S16x2048x64, .f32⟩ : BufTy).Contents (Elt F) → (⟨S16x2048x64, .f32⟩ : BufTy).Contents (Elt F)),
    binary main_v19 main_v19 main_v20 (mulf : (⟨S16x2048x64, .f32⟩ : BufTy).Contents (Elt F) → (⟨S16x2048x64, .f32⟩ : BufTy).Contents (Elt F) → (⟨S16x2048x64, .f32⟩ : BufTy).Contents (Elt F)),
    nullary main_cst_2 (constant S_ .f32 0x00000000#32),
    binary main_v20 main_cst_2 main_v21 ((fun x v => Host.reduceAdd x v reducesTo_S16x2048x64_S_d0_1_2 h_S_) : (⟨S16x2048x64, .f32⟩ : BufTy).Contents (Elt F) → (⟨S_, .f32⟩ : BufTy).Contents (Elt F) → (⟨S_, .f32⟩ : BufTy).Contents (Elt F)),
    nullary main_cst_3 (constant S_ .f32 0x4A000000#32),
    binary main_v21 main_cst_3 main_v22 (Host.divf : (⟨S_, .f32⟩ : BufTy).Contents (Elt F) → (⟨S_, .f32⟩ : BufTy).Contents (Elt F) → (⟨S_, .f32⟩ : BufTy).Contents (Elt F)),
    binary main_v18 main_v0 main_v23 (subf : (⟨S16x2048x64, .f32⟩ : BufTy).Contents (Elt F) → (⟨S16x2048x64, .f32⟩ : BufTy).Contents (Elt F) → (⟨S16x2048x64, .f32⟩ : BufTy).Contents (Elt F)),
    binary main_v23 main_v23 main_v24 (mulf : (⟨S16x2048x64, .f32⟩ : BufTy).Contents (Elt F) → (⟨S16x2048x64, .f32⟩ : BufTy).Contents (Elt F) → (⟨S16x2048x64, .f32⟩ : BufTy).Contents (Elt F)),
    nullary main_cst_4 (constant S_ .f32 0x00000000#32),
    binary main_v24 main_cst_4 main_v25 ((fun x v => Host.reduceAdd x v reducesTo_S16x2048x64_S_d0_1_2 h_S_) : (⟨S16x2048x64, .f32⟩ : BufTy).Contents (Elt F) → (⟨S_, .f32⟩ : BufTy).Contents (Elt F) → (⟨S_, .f32⟩ : BufTy).Contents (Elt F)),
    nullary main_cst_5 (constant S_ .f32 0x4A000000#32),
    binary main_v25 main_cst_5 main_v26 (Host.divf : (⟨S_, .f32⟩ : BufTy).Contents (Elt F) → (⟨S_, .f32⟩ : BufTy).Contents (Elt F) → (⟨S_, .f32⟩ : BufTy).Contents (Elt F)),
    nullary main_cst_6 (constant S_ .f32 0x3E800000#32),
    binary main_cst_6 main_v22 main_v27 (mulf : (⟨S_, .f32⟩ : BufTy).Contents (Elt F) → (⟨S_, .f32⟩ : BufTy).Contents (Elt F) → (⟨S_, .f32⟩ : BufTy).Contents (Elt F)),
    binary main_v26 main_v27 main_v28 (addf : (⟨S_, .f32⟩ : BufTy).Contents (Elt F) → (⟨S_, .f32⟩ : BufTy).Contents (Elt F) → (⟨S_, .f32⟩ : BufTy).Contents (Elt F)),
    binary main_v18 main_v0 main_v29 (subf : (⟨S16x2048x64, .f32⟩ : BufTy).Contents (Elt F) → (⟨S16x2048x64, .f32⟩ : BufTy).Contents (Elt F) → (⟨S16x2048x64, .f32⟩ : BufTy).Contents (Elt F)),
    binary main_v0 main_v29 main_v30 (addf : (⟨S16x2048x64, .f32⟩ : BufTy).Contents (Elt F) → (⟨S16x2048x64, .f32⟩ : BufTy).Contents (Elt F) → (⟨S16x2048x64, .f32⟩ : BufTy).Contents (Elt F)),
    unary main_v30 main_v31 ((transpose S16x64x2048 [0, 2, 1] · transposes_S16x2048x64_S16x64x2048_0_2_1) : (⟨S16x2048x64, .f32⟩ : BufTy).Contents (Elt F) → (⟨S16x64x2048, .f32⟩ : BufTy).Contents (Elt F)),
    reshape main_v16 main_v32 (rfl : (.i32 : EltTy) = .i32) shapeCasts_S32768_S16x2048 ]

/-- Their buffers are the program's. -/
theorem opsOut_sub : (opsOut : List (HloOp τ sig (Elt F))).Forall fun op => op.bufs ⊆ tcRefs τ sig :=
  ⟨reshape_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., unary_bufs_sub .., reshape_bufs_sub ..⟩

/-- All of @main's operations, in order. -/
abbrev ops : List (HloOp τ sig (Elt F)) := opsDist ++ (opsArgmin ++ (opsTake ++ opsOut))

set_option maxHeartbeats 4000000 in
/-- @main runs the listed operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Each operation's buffers are the program's. -/
theorem ops_sub : (ops : List (HloOp τ sig (Elt F))).Forall fun op => op.bufs ⊆ tcRefs τ sig := by
  simp only [ops, List.forall_append]
  exact ⟨opsDist_sub, opsArgmin_sub, opsTake_sub, opsOut_sub⟩

/-! ### What each part leaves -/

variable (V : Valuation τ sig (Elt F))

theorem dist_v15 : after opsDist V (Proc.devRef .tc main_v15) = dist (V main_arg0) (V main_arg1) := by
  simp only [opsDist]; after_results_simp <;> rfl
theorem dist_v0 : after opsDist V (Proc.devRef .tc main_v0) = xt (V main_arg0) := by
  simp only [opsDist]; after_results_simp <;> rfl
theorem dist_arg0 : after opsDist V (Proc.devRef .tc main_arg0) = V main_arg0 := by
  simp only [opsDist]; after_results_simp <;> rfl
theorem dist_arg1 : after opsDist V (Proc.devRef .tc main_arg1) = V main_arg1 := by
  simp only [opsDist]; after_results_simp <;> rfl

theorem argmin_v16 : after opsArgmin V (Proc.devRef .tc main_v16) = argmin (V main_v15) := by
  simp only [opsArgmin, TRef.nullary, TRef.quaternary, TRef.toBuf, TRef.ofBuf, cast_eq]; after_results_simp <;> rfl
theorem argmin_v0 : after opsArgmin V (Proc.devRef .tc main_v0) = V main_v0 := by
  simp only [opsArgmin, TRef.nullary, TRef.quaternary, TRef.toBuf, TRef.ofBuf, cast_eq]; after_results_simp <;> rfl
theorem argmin_arg0 : after opsArgmin V (Proc.devRef .tc main_arg0) = V main_arg0 := by
  simp only [opsArgmin, TRef.nullary, TRef.quaternary, TRef.toBuf, TRef.ofBuf, cast_eq]; after_results_simp <;> rfl
theorem argmin_arg1 : after opsArgmin V (Proc.devRef .tc main_arg1) = V main_arg1 := by
  simp only [opsArgmin, TRef.nullary, TRef.quaternary, TRef.toBuf, TRef.ofBuf, cast_eq]; after_results_simp <;> rfl

theorem take_v17 : after opsTake V (Proc.devRef .tc main_v17) = take (V main_arg1) (V main_v16) := by
  simp only [opsTake, TRef.binary, TRef.nullary, TRef.ternary, TRef.unary, TRef.toBuf, TRef.ofBuf, cast_eq]; after_results_simp <;> rfl
theorem take_v16 : after opsTake V (Proc.devRef .tc main_v16) = V main_v16 := by
  simp only [opsTake, TRef.binary, TRef.nullary, TRef.ternary, TRef.unary, TRef.toBuf, TRef.ofBuf, cast_eq]; after_results_simp <;> rfl
theorem take_v0 : after opsTake V (Proc.devRef .tc main_v0) = V main_v0 := by
  simp only [opsTake, TRef.binary, TRef.nullary, TRef.ternary, TRef.unary, TRef.toBuf, TRef.ofBuf, cast_eq]; after_results_simp <;> rfl
theorem take_arg0 : after opsTake V (Proc.devRef .tc main_arg0) = V main_arg0 := by
  simp only [opsTake, TRef.binary, TRef.nullary, TRef.ternary, TRef.unary, TRef.toBuf, TRef.ofBuf, cast_eq]; after_results_simp <;> rfl
theorem take_arg1 : after opsTake V (Proc.devRef .tc main_arg1) = V main_arg1 := by
  simp only [opsTake, TRef.binary, TRef.nullary, TRef.ternary, TRef.unary, TRef.toBuf, TRef.ofBuf, cast_eq]; after_results_simp <;> rfl

theorem out_v31 : after opsOut V (Proc.devRef .tc main_v31) = out (quant (V main_v17)) (V main_v0) := by
  simp only [opsOut]; after_results_simp <;> rfl
theorem out_v28 : after opsOut V (Proc.devRef .tc main_v28) = loss (quant (V main_v17)) (V main_v0) := by
  simp only [opsOut]; after_results_simp <;> rfl
theorem out_v32 : after opsOut V (Proc.devRef .tc main_v32) = idx (F := F) (V main_v16) := by
  simp only [opsOut]; after_results_simp <;> rfl
theorem out_arg0 : after opsOut V (Proc.devRef .tc main_arg0) = V main_arg0 := by
  simp only [opsOut]; after_results_simp <;> rfl
theorem out_arg1 : after opsOut V (Proc.devRef .tc main_arg1) = V main_arg1 := by
  simp only [opsOut]; after_results_simp <;> rfl

/-! ### The run -/

/-- The index of every row's nearest codebook row. -/
def nearest (x : Arr F S16x64x2048 .f32) (w : Arr F S1024x64 .f32) : Arr F S32768 .i32 := argmin (dist x w)

section
variable (V : Valuation τ sig (Elt F))

theorem ops_v31 : after ops V (Proc.devRef .tc main_v31)
    = out (quant (take (V main_arg1) (nearest (V main_arg0) (V main_arg1)))) (xt (V main_arg0)) := by
  rw [after_append, after_append, after_append, out_v31, take_v17, take_v0, argmin_v16, argmin_v0, argmin_arg1, dist_v15, dist_v0, dist_arg1]; rfl
theorem ops_v28 : after ops V (Proc.devRef .tc main_v28)
    = loss (quant (take (V main_arg1) (nearest (V main_arg0) (V main_arg1)))) (xt (V main_arg0)) := by
  rw [after_append, after_append, after_append, out_v28, take_v17, take_v0, argmin_v16, argmin_v0, argmin_arg1, dist_v15, dist_v0, dist_arg1]; rfl
theorem ops_v32 : after ops V (Proc.devRef .tc main_v32) = idx (F := F) (nearest (V main_arg0) (V main_arg1)) := by
  rw [after_append, after_append, after_append, out_v32, take_v16, argmin_v16, dist_v15]; rfl
theorem ops_arg0 : after ops V (Proc.devRef .tc main_arg0) = V main_arg0 := by
  rw [after_append, after_append, after_append, out_arg0, take_arg0, argmin_arg0, dist_arg0]
theorem ops_arg1 : after ops V (Proc.devRef .tc main_arg1) = V main_arg1 := by
  rw [after_append, after_append, after_append, out_arg1, take_arg1, argmin_arg1, dist_arg1]
end

set_option maxHeartbeats 1000000 in
/-- Every run of the reference ends with the three results at their composed terms of the arguments, and with the arguments
as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
          = out (quant (take (m ((c.tc : Thread nD τ).loc main_arg1)) (nearest (m ((c.tc : Thread nD τ).loc main_arg0)) (m ((c.tc : Thread nD τ).loc main_arg1)))))
              (xt (m ((c.tc : Thread nD τ).loc main_arg0)))
      ∧ r.2.mem ((c.tc : Thread nD τ).loc main_v28)
          = loss (quant (take (m ((c.tc : Thread nD τ).loc main_arg1)) (nearest (m ((c.tc : Thread nD τ).loc main_arg0)) (m ((c.tc : Thread nD τ).loc main_arg1)))))
              (xt (m ((c.tc : Thread nD τ).loc main_arg0)))
      ∧ r.2.mem ((c.tc : Thread nD τ).loc main_v32)
          = idx (F := F) (nearest (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_v31).trans (ops_v31 _), (h c main_v28).trans (ops_v28 _), (h c main_v32).trans (ops_v32 _),
      (h c main_arg0).trans (ops_arg0 _), (h c main_arg1).trans (ops_arg1 _)⟩)
    (run_seq scopedRefs_eq scopedSems_eq defs main (fun _ => ops) main_eq (fun _ => ops_sub) m ρ)

end Ref

end
-- ==== Proof.ArgMin.lean ====
module

public import proofs.«01_k».proof.Proof.RefRun
public import proofs.«01_k».proof.Proof.Nearest
public import Idealize.ShloMosaic.Lib.Pointwise
public import Idealize.ShloMosaic.Lib.WordCmp
public import Idealize.ShloMosaic.Lib.Routing.Ops

@[expose] public section

/-! The arg-min of a row of finite distances is its first least entry. -/

set_option maxRecDepth 16384

noncomputable section

namespace Ref

open Cert.ReferenceIdeal Cert.ReferenceIdeal.Gen Idealize.ShloMosaic Idealize.ShloMosaic.TcCoe Idealize.SL.Sem Nearest

/-! ### The arg-min -/

/-- A set bit stays set. -/
theorem one_or (v : BitVec 1) : 1#1 ||| v = 1#1 := by revert v; decide

/-- A set bit leaves the other. -/
theorem one_and (v : BitVec 1) : 1#1 &&& v = v := by revert v; decide

/-- One step of the arg-min: the first pair where its value is less. -/
theorem step_lt {a b : Ideal .f32 × BitVec 32} (h : (a.1 : EReal) < b.1) : reducer_argmin_f32_i32 a b = a := by
  simp [reducer_argmin_f32_i32, Ideal.cmpf_def, Ideal.cmp, h, IntOp.ori, Scalar.select, one_or]

/-- The second where its value is less. -/
theorem step_gt {a b : Ideal .f32 × BitVec 32} (h : (b.1 : EReal) < a.1) : reducer_argmin_f32_i32 a b = b := by
  simp [reducer_argmin_f32_i32, Ideal.cmpf_def, Ideal.cmp, h.not_gt, h.ne', IntOp.ori, IntOp.andi, Scalar.select]

/-- Of two equal values, the lesser index. -/
theorem step_eq {a b : Ideal .f32 × BitVec 32} (h : (a.1 : EReal) = b.1) :
    reducer_argmin_f32_i32 a b = (a.1, if IntOp.cmpi .slt a.2 b.2 = 1#1 then a.2 else b.2) := by
  simp [reducer_argmin_f32_i32, Ideal.cmpf_def, Ideal.cmp, h, IntOp.ori, IntOp.andi, Scalar.select, one_and]

variable {D : Fin 1024 → EReal} {k : Fin 1024}

/-- The pair of a row: its value and its index. -/
abbrev pair (D : Fin 1024 → EReal) (j : Fin 1024) : Ideal .f32 × BitVec 32 := (D j, BitVec.ofNat 32 j.val)

/-- The least of two rows' indices, as the arg-min compares them. -/
theorem slt_idx (i j : Fin 1024) : IntOp.cmpi .slt (BitVec.ofNat 32 i.val) (BitVec.ofNat 32 j.val) = 1#1 ↔ i < j :=
  WordCmp.cmpi_slt_ofNat_eq_one_iff (by have := i.isLt; omega) (by have := j.isLt; omega)

/-- Once at the first least row, the arg-min stays there. -/
theorem step_best (h : First D k) (j : Fin 1024) : reducer_argmin_f32_i32 (pair D k) (pair D j) = pair D k := by
  rcases (h.1 j).lt_or_eq with hl | he
  · exact step_lt hl
  · rw [step_eq he]
    show (D k, _) = _
    congr 1
    split
    · rfl
    · rename_i hn
      rw [slt_idx] at hn
      rw [le_antisymm (h.2 j he.symm) (not_lt.1 hn)]

/-- From a row or from above all of them, the first least row is reached in one step. -/
theorem step_to (h : First D k) {a : Ideal .f32 × BitVec 32} (ha : a = (⊤, 0#32) ∧ D k < ⊤ ∨ ∃ i, a = pair D i) :
    reducer_argmin_f32_i32 a (pair D k) = pair D k := by
  rcases ha with ⟨rfl, ht⟩ | ⟨i, rfl⟩
  · exact step_gt ht
  · rcases (h.1 i).lt_or_eq with hl | he
    · exact step_gt hl
    · rw [step_eq he.symm]
      show (D i, _) = _
      rw [← he]
      congr 1
      split
      · rename_i hs
        exact absurd ((slt_idx _ _).1 hs) (not_lt.2 (h.2 i he.symm))
      · rfl

/-- A step to any row ends at a row. -/
theorem step_row {a : Ideal .f32 × BitVec 32} {j : Fin 1024} (hj : D j < ⊤) (ha : a = (⊤, 0#32) ∨ ∃ i, a = pair D i) :
    ∃ i, reducer_argmin_f32_i32 a (pair D j) = pair D i := by
  rcases ha with rfl | ⟨i, rfl⟩
  · exact ⟨j, step_gt hj⟩
  · rcases lt_trichotomy (D i) (D j) with hl | he | hl
    · exact ⟨i, step_lt hl⟩
    · rw [step_eq he]
      by_cases hs : IntOp.cmpi .slt (pair D i).2 (pair D j).2 = 1#1
      · exact ⟨i, by rw [if_pos hs]⟩
      · exact ⟨j, by rw [if_neg hs]; show (D i, _) = _; rw [he]⟩
    · exact ⟨j, step_gt hl⟩

/-- The arg-min over a list of rows, from the first least one. -/
theorem foldl_best (h : First D k) : ∀ l : List (Ideal .f32 × BitVec 32), (∀ e ∈ l, ∃ j, e = pair D j) →
    l.foldl reducer_argmin_f32_i32 (pair D k) = pair D k
  | [], _ => rfl
  | e :: l, hl => by
    obtain ⟨j, rfl⟩ := hl e List.mem_cons_self
    rw [List.foldl_cons, step_best h j]
    exact foldl_best h l fun e he => hl e (List.mem_cons_of_mem _ he)

/-- The arg-min over a list of rows that holds the first least one. -/
theorem foldl_first (h : First D k) (hD : ∀ j, D j < ⊤) : ∀ (l : List (Ideal .f32 × BitVec 32)) (a : Ideal .f32 × BitVec 32),
    (∀ e ∈ l, ∃ j, e = pair D j) → pair D k ∈ l → (a = (⊤, 0#32) ∨ ∃ i, a = pair D i) →
    l.foldl reducer_argmin_f32_i32 a = pair D k
  | [], _, _, hk, _ => absurd hk List.not_mem_nil
  | e :: l, a, hl, hk, ha => by
    obtain ⟨j, rfl⟩ := hl e List.mem_cons_self
    have hl' : ∀ e ∈ l, ∃ j, e = pair D j := fun e he => hl e (List.mem_cons_of_mem _ he)
    rw [List.foldl_cons]
    rcases List.mem_cons.1 hk with he | hk'
    · rw [← he, step_to h (ha.imp_left fun e => ⟨e, hD k⟩)]
      exact foldl_best h l hl'
    · obtain ⟨i, hi⟩ := step_row (hD j) ha
      rw [hi]
      exact foldl_first h hD l _ hl' hk' (Or.inr ⟨i, rfl⟩)

/-- The pairs an arg-reduction folds at an index: those of the source's indices that reduce to it. -/
theorem mem_fiber {s t : Shape} {axes : List (Fin s.rank)} {α β : Type} (x : s.Idx → α) (y : s.Idx → β) (h : s.ReducesTo axes t)
    (j : t.Idx) (e : α × β) : e ∈ Host.argReduceFiber x y h j ↔ ∃ i, h.drop i = j ∧ e = (x i, y i) := by
  unfold Host.argReduceFiber
  rw [List.mem_map]
  constructor
  · rintro ⟨n, hn, rfl⟩
    exact ⟨s.rowMajor.symm n, of_decide_eq_true (List.mem_filter.1 hn).2, rfl⟩
  · rintro ⟨i, hi, rfl⟩
    refine ⟨s.rowMajor i, List.mem_filter.2 ⟨List.mem_finRange _, decide_eq_true ?_⟩, ?_⟩ <;> rw [Equiv.symm_apply_apply]
    exact hi

/-- An index of the distances reduces to its row. -/
theorem drop_eq (i : S32768x1024.Idx) : reducesTo_S32768x1024_S32768_d1.drop i = ix1 (i 0) := by
  funext a
  match a with
  | 0 => exact Fin.ext (reducesTo_S32768x1024_S32768_d1.drop_apply_val_of_eq i 0 0)

/-- The second coordinate as a word. -/
theorem iota_at (p : Fin 32768) (j : Fin 1024) : iotaInDim S32768x1024 32 1 (ix2 p j) = BitVec.ofNat 32 j.val := by
  pointwise

/-- A row's fiber of the distances: the pairs of the row's distances and their indices. -/
theorem row_mem (d : Arr Ideal S32768x1024 .f32) (p : Fin 32768) (e : Ideal .f32 × BitVec 32) :
    e ∈ Host.argReduceFiber d (iotaInDim S32768x1024 32 1) reducesTo_S32768x1024_S32768_d1 (ix1 p)
      ↔ ∃ j, e = pair (fun j => d (ix2 p j)) j := by
  rw [mem_fiber]
  constructor
  · rintro ⟨i, hi, rfl⟩
    rw [drop_eq] at hi
    have hp : i 0 = p := congrFun hi 0
    have e : i = ix2 p (i 1) := (ValueIdx.eq_ix2 i).trans (congrArg (fun q => ix2 q (i 1)) hp)
    exact ⟨i 1, Prod.ext (congrArg d e) ((congrArg (iotaInDim S32768x1024 32 1) e).trans (iota_at p _))⟩
  · rintro ⟨j, rfl⟩
    exact ⟨ix2 p j, drop_eq _, Prod.ext rfl (iota_at p j).symm⟩

/-- The arg-reduction of all the rows, values and indices. -/
def pairs (d : Arr Ideal S32768x1024 .f32) : S32768.Idx → Ideal .f32 × BitVec 32 :=
  Host.argReduce (F := Ideal) (reducer_argmin_f32_i32 (F := Ideal)) d (iotaInDim S32768x1024 32 1)
    (constant (F := Ideal) S_ .f32 0x7F800000#32) (constantI S_ 32 0#32) reducesTo_S32768x1024_S32768_d1 h_S_

/-- The arg-min is its indices. -/
theorem argmin_eq (d : Arr Ideal S32768x1024 .f32) : argmin d = fun j => (pairs d j).2 := by
  delta argmin pairs
  with_reducible rfl

/-- A row's pair, from its first least entry. -/
theorem pairs_at (d : Arr Ideal S32768x1024 .f32) (p : Fin 32768) (h : First (fun j => d (ix2 p j)) k)
    (hD : ∀ j, (d (ix2 p j) : EReal) < ⊤) : pairs d (ix1 p) = pair (fun j => d (ix2 p j)) k := by
  delta pairs
  rw [Ideal.argReduce_eq_reduce2, Host.reduce2_eq_foldl_fiber]
  have hs : constant (F := Ideal) S_ .f32 0x7F800000#32 (Shape.Idx.first h_S_) = (⊤ : EReal) := ofBits_top
  have hm := row_mem d p
  generalize Host.argReduceFiber d (iotaInDim S32768x1024 32 1) reducesTo_S32768x1024_S32768_d1 (ix1 p) = l at hm ⊢
  rw [hs]
  refine foldl_first (D := fun j => d (ix2 p j)) h hD l _ ?_ ?_ ?_
  · exact fun e he => (hm e).1 he
  · exact (hm _).2 ⟨k, rfl⟩
  · exact Or.inl (Prod.ext rfl rfl)

/-- The arg-min of a row of finite distances is its first least entry. -/
theorem argmin_at (d : Arr Ideal S32768x1024 .f32) (p : Fin 32768) (h : First (fun j => d (ix2 p j)) k)
    (hD : ∀ j, (d (ix2 p j) : EReal) < ⊤) : argmin d (ix1 p) = BitVec.ofNat 32 k.val := by
  have e := congrArg Prod.snd (pairs_at d p h hD)
  rw [argmin_eq]
  exact e

end Ref

end
-- ==== Proof.RefRows.lean ====
module

public import proofs.«01_k».proof.Proof.ArgMin
public import Idealize.ShloMosaic.Lib.Pointwise
public import Idealize.ShloMosaic.Lib.WordCmp
public import Idealize.ShloMosaic.Lib.Routing.Ops

@[expose] public section

/-! The reference's pieces at an index, over the ideal values and finite arguments: the arg-min is the first nearest row, the
rows taken are those rows, and the mean is that of the least squared distances. -/

set_option maxRecDepth 16384

noncomputable section

namespace Ref

open Cert.ReferenceIdeal Cert.ReferenceIdeal.Gen Idealize.ShloMosaic Idealize.ShloMosaic.TcCoe Idealize.SL.Sem Nearest

/-! ### The rows taken -/

section Take

variable {k : Fin 1024} {w : Arr Ideal S1024x64 .f32} {i : Arr Ideal S32768 .i32} {p : Fin 32768} (hi : i (ix1 p) = BitVec.ofNat 32 k.val)

include hi

/-- A row's index is left as it is. -/
theorem wrap_at (z : Fin 1) : wrap (F := Ideal) i (ix2 p z) = BitVec.ofNat 32 k.val := by
  pointwise [wrap]
  rw [hi, show IntOp.cmpi .slt (BitVec.ofNat 32 k.val) 0#32 = 0#1 from
    (WordCmp.cmpi_slt_ofNat_eq_zero_iff (b := 0) (by have := k.isLt; omega) (by decide)).2 (by omega)]
  rfl

/-- It is in range. -/
theorem inRange_at : inRange (F := Ideal) i (ix1 p) = 1#1 := by
  unfold inRange
  have hv := wrap_at hi
  generalize wrap (F := Ideal) i = v at hv ⊢
  pointwise
  simp only [hv]
  rw [show IntOp.cmpi .sge (BitVec.ofNat 32 k.val) 0#32 = 1#1 from
      (WordCmp.cmpi_sge_ofNat_eq_one_iff (b := 0) (by have := k.isLt; omega) (by decide)).2 (by omega),
    show IntOp.cmpi .sle (BitVec.ofNat 32 k.val) 1023#32 = 1#1 from
      (WordCmp.cmpi_sle_ofNat_eq_one_iff (b := 1023) (by have := k.isLt; omega) (by decide)).2 (by have := k.isLt; omega)]
  rfl

/-- The row is taken. -/
theorem take_at (d : Fin 64) : take w i (ix2 p d) = w (ix2 k d) := by
  unfold take
  have hv := wrap_at hi
  have hr := inRange_at hi
  generalize wrap (F := Ideal) i = v at hv ⊢
  pointwise
  rw [hr]
  exact Routing.gather_row _ rfl rfl rfl rfl rfl w v p d k (hv 0) (by decide)

end Take

/-! ### The results -/

/-- The place of a batch's time step in the flat list of vectors. -/
abbrev pos (b : Fin 16) (t : Fin 2048) : Fin 32768 := ⟨b.val * 2048 + t.val, by omega⟩

/-- The result of indices reads the flat list. -/
theorem idx_read (n : Arr Ideal S32768 .i32) (b : Fin 16) (t : Fin 2048) : idx (F := Ideal) n (ix2 b t) = n (ix1 (pos b t)) := by
  pointwise [idx]

/-- The rows in their batches read the flat list. -/
theorem quant_read (n : Arr Ideal S32768x64 .f32) (b : Fin 16) (t : Fin 2048) (d : Fin 64) :
    quant n (ix3 b t d) = n (ix2 (pos b t) d) := by
  pointwise [quant]

/-- The quantised latents, from the rows and the latents. -/
theorem out_read (q : Arr Ideal S16x2048x64 .f32) (x : Arr Ideal S16x64x2048 .f32) (b : Fin 16) (d : Fin 64) (t : Fin 2048) :
    out q (xt x) (ix3 b d t) = (x (ix3 b d t) + (q (ix3 b t d) - x (ix3 b d t)) : EReal) := by
  pointwise [out, xt]

/-- The mean, from the rows and the latents. -/
theorem mse_read (q : Arr Ideal S16x2048x64 .f32) (x : Arr Ideal S16x64x2048 .f32) (z : S_.Idx) :
    mse q (xt x) z = Ideal.div (∑ b : Fin 16, ∑ t : Fin 2048, ∑ d : Fin 64,
      ((q (ix3 b t d) - x (ix3 b d t)) * (q (ix3 b t d) - x (ix3 b d t)) : EReal)) (Ideal.ofBits .f32 0x4A000000#32) := by
  pointwise [mse, xt]

section Results

variable {x : Arr Ideal S16x64x2048 .f32} {w : Arr Ideal S1024x64 .f32}
  {xr : Fin 16 → Fin 64 → Fin 2048 → ℝ} {wr : Fin 1024 → Fin 64 → ℝ} {K : Fin 16 → Fin 2048 → Fin 1024}
  (hx : ∀ b d t, x (ix3 b d t) = (xr b d t : EReal)) (hw : ∀ k d, w (ix2 k d) = (wr k d : EReal))

include hx hw

/-- A distance is the squared distance. -/
theorem dist_at (b : Fin 16) (t : Fin 2048) (k : Fin 1024) :
    dist x w (ix2 (pos b t) k) = dists wr (fun d => xr b d t) k := by
  pointwise [dist, flat, xt]
  simp only [hx, hw, ofBits_two]
  have hb : ∀ h, (⟨(b.val * 2048 + t.val) / 2048, h⟩ : Fin 16) = b := fun h => Fin.ext (by show _ / _ = _; omega)
  have ht : ∀ h, (⟨(b.val * 2048 + t.val) % 2048, h⟩ : Fin 2048) = t := fun h => Fin.ext (by show _ % _ = _; omega)
  simp only [hb, ht]
  exact reference_form (wr k) fun d => xr b d t

variable (hK : ∀ b t, First (dists wr fun d => xr b d t) (K b t))

include hK

/-- The index found is that of the first nearest row. -/
theorem nearest_at (b : Fin 16) (t : Fin 2048) : nearest x w (ix1 (pos b t)) = BitVec.ofNat 32 (K b t).val := by
  have e : nearest x w = argmin (dist x w) := by
    delta nearest
    with_reducible rfl
  have hd : (fun k => dist x w (ix2 (pos b t) k)) = dists wr (fun d => xr b d t) := funext fun k => dist_at hx hw b t k
  rw [e]
  exact argmin_at (dist x w) (pos b t) (hd ▸ hK b t) fun j => (dist_at hx hw b t j).trans_lt (EReal.coe_lt_top _)

/-- The result of indices. -/
theorem idx_at (b : Fin 16) (t : Fin 2048) : idx (F := Ideal) (nearest x w) (ix2 b t) = BitVec.ofNat 32 (K b t).val :=
  (idx_read _ b t).trans (nearest_at hx hw hK b t)

/-- The rows taken, in the latents' batches. -/
theorem quant_at (b : Fin 16) (t : Fin 2048) (d : Fin 64) :
    quant (take w (nearest x w)) (ix3 b t d) = (wr (K b t) d : EReal) := by
  have h := take_at (w := w) (nearest_at hx hw hK b t) d
  exact (quant_read _ b t d).trans (h.trans (hw _ _))

/-- The result of quantised latents. -/
theorem out_at (b : Fin 16) (d : Fin 64) (t : Fin 2048) :
    out (quant (take w (nearest x w))) (xt x) (ix3 b d t) = (wr (K b t) d : EReal) := by
  rw [out_read, quant_at hx hw hK b t d, hx]
  exact add_sub_self _ _

/-- The mean: the least squared distances' sum over the number of entries. -/
theorem mse_at (z : S_.Idx) : mse (quant (take w (nearest x w))) (xt x) z
    = Ideal.div (∑ b, ∑ t, dists wr (fun d => xr b d t) (K b t)) (Ideal.ofBits .f32 0x4A000000#32) := by
  rw [mse_read]
  simp only [quant_at hx hw hK, hx, sum_form]

end Results

end Ref

end
-- ==== Proof.Equation.lean ====
module

public import proofs.«01_k».proof.Proof.Arrays
public import proofs.«01_k».proof.Proof.KerRun
public import proofs.«01_k».proof.Proof.RefRows

@[expose] public section

/-! The equation: for real arguments the kernel's three results are the reference's. -/

set_option maxRecDepth 16384

noncomputable section

namespace Equation

open Cert.KernelIdeal Cert.KernelIdeal.Gen Idealize.ShloMosaic Idealize.ShloMosaic.TcCoe Idealize.SL.Sem Nearest Ker

variable {m : (ℓ : Loc nD τ sig) → Buf (Elt Ideal) ℓ} {c : Dev nD}
  {xr : Fin 16 → Fin 64 → Fin 2048 → ℝ} {wr : Fin 1024 → Fin 64 → ℝ} {K : Fin 16 → Fin 2048 → Fin 1024}
  (hx : ∀ b d t, xOf m c (ix3 b d t) = (xr b d t : EReal)) (hw : ∀ k d, wOf m c (ix2 k d) = (wr k d : EReal))
  (hK : ∀ b t, First (dists wr fun d => xr b d t) (K b t))

include hx hw hK

/-- The quantised latents. -/
theorem q_eq : (dats m 0 c).arrAt 2 cfg0.N
    = Ref.out (Ref.quant (Ref.take (wOf m c) (Ref.nearest (xOf m c) (wOf m c)))) (Ref.xt (xOf m c)) := by
  rw [q_final hx hw hK]
  funext i
  have h := Ref.out_at hx hw hK (i 0) (i 1) (i 2)
  generalize Ref.out (Ref.quant (Ref.take (wOf m c) (Ref.nearest (xOf m c) (wOf m c)))) (Ref.xt (xOf m c)) = f at h ⊢
  exact h.symm.trans (congrArg f (ValueIdx.eq_ix3 (n0 := 16) (n1 := 64) (n2 := 2048) i).symm)

/-- The indices. -/
theorem idx_eq : kIndices ((dats m 0 c).arrAt 3 cfg0.N) = Ref.idx (F := Ideal) (Ref.nearest (xOf m c) (wOf m c)) := by
  rw [idx_final hx hw hK]
  funext i
  have h := Ref.idx_at hx hw hK (i 0) (i 1)
  generalize Ref.idx (F := Ideal) (Ref.nearest (xOf m c) (wOf m c)) = f at h ⊢
  have e := ValueIdx.eq_ix2 (n0 := 16) (n1 := 2048) i
  exact (congrArg (kIndices _) e).trans ((kIndices_at _ (i 0) (i 1)).trans (h.symm.trans (congrArg f e.symm)))

/-- The mean. -/
theorem mse_eq : kMse (F := Ideal) ((dats m 0 c).arrAt 4 cfg0.N)
    = Ref.mse (Ref.quant (Ref.take (wOf m c) (Ref.nearest (xOf m c) (wOf m c)))) (Ref.xt (xOf m c)) := by
  rw [acc_final hx hw hK]
  funext z
  rw [Ref.mse_at hx hw hK, kMse_at]
  exact congrArg (fun a => Ideal.div a (Ideal.ofBits .f32 0x4A000000#32)) Finset.sum_comm

/-- The loss. -/
theorem loss_eq : kLoss (F := Ideal) ((dats m 0 c).arrAt 4 cfg0.N)
    = Ref.loss (Ref.quant (Ref.take (wOf m c) (Ref.nearest (xOf m c) (wOf m c)))) (Ref.xt (xOf m c)) := by
  delta kLoss Ref.loss
  rw [mse_eq hx hw hK]

end Equation

end
-- ==== Proof.Finite.lean ====
module

public import proofs.«01_k».proof.Pre_finite
public import proofs.«01_k».proof.Proof.Nearest
public import Idealize.ShloMosaic.Lib.Pointwise

@[expose] public section

/-! The precondition: every entry of both arguments is a real number. -/

set_option maxRecDepth 16384

noncomputable section

namespace Cert.Pre_finite

open Idealize.ShloMosaic Nearest

/-- The shapes' side conditions. -/
instance facts : Facts := ⟨by decide, by decide⟩

/-- An extended real whose absolute value is below the top is real. -/
theorem real_of_abs (a : EReal) (h : Ideal.cmp .olt (max a (-a)) (Ideal.ofBits .f32 0x7F800000#32) = 1#1) : ∃ r : ℝ, a = r := by
  rw [ofBits_top] at h
  have hl : max a (-a) < ⊤ := by
    by_contra hn
    simp [Ideal.cmp, hn] at h
  refine ⟨a.toReal, (EReal.coe_toReal ?_ ?_).symm⟩
  · rintro rfl
    simp at hl
  · rintro rfl
    simp at hl

variable {x : Vec Ideal S16x64x2048 .f32} {w : Vec Ideal S1024x64 .f32}

/-- The latents are real. -/
theorem real_x (h : (fn (F := Ideal) x w).1 = fun _ => 1#1) : ∃ xr : Fin 16 → Fin 64 → Fin 2048 → ℝ,
    ∀ b d t, x (ix3 b d t) = (xr b d t : EReal) := by
  have e : ∀ b d t, ∃ r : ℝ, x (ix3 b d t) = (r : EReal) := fun b d t => real_of_abs _ (congrFun h (ix3 b d t))
  choose xr hx using e
  exact ⟨xr, hx⟩

/-- The codebook is real. -/
theorem real_w (h : (fn (F := Ideal) x w).2 = fun _ => 1#1) : ∃ wr : Fin 1024 → Fin 64 → ℝ,
    ∀ k d, w (ix2 k d) = (wr k d : EReal) := by
  have e : ∀ k d, ∃ r : ℝ, w (ix2 k d) = (r : EReal) := fun k d => real_of_abs _ (congrFun h (ix2 k d))
  choose wr hw using e
  exact ⟨wr, hw⟩

end Cert.Pre_finite

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Equation
public import proofs.«01_k».proof.Proof.Finite
public import Idealize.ShloMosaic.Adequacy
public import Idealize.ShloMosaic.Init
public import Idealize.ShloMosaic.Lib.Claim
public import Idealize.ShloMosaic.Lib.Quiescent

@[expose] public section

/-! The five claims, assembled: the frames of the kernel, of its ideal program and of the reference, and the equality of the
kernel's three results with the reference's on real arguments. -/

set_option maxRecDepth 16384

noncomputable section

namespace Cert.Proof

open Idealize.ShloMosaic Idealize.SL.Sem Cert.Kernel

/-- The reference's frame: it ends with its arguments kept and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0 :=
  θ_run_mono (Ref.run m g) fun r h => ⟨fun c => ⟨(h c).2.2.2.1, (h c).2.2.2.2⟩, sem_eq_zero_of_no_sems (by decide) r.2⟩

/-- The kernel and the reference compute the same three results from real arguments. -/
theorem algebraic : Cert.algebraic_KernelIdeal_ReferenceIdeal_pre_finite := by
  intro m g m' g' hpre hagree
  refine ⟨fun c => (Cert.KernelIdeal.Gen.dats m 0 c).arrAt 2 Cert.KernelIdeal.cfg0.N,
    fun c => Ker.kLoss ((Cert.KernelIdeal.Gen.dats m 0 c).arrAt 4 Cert.KernelIdeal.cfg0.N),
    fun c => Ker.kIndices ((Cert.KernelIdeal.Gen.dats m 0 c).arrAt 3 Cert.KernelIdeal.cfg0.N), ?_, ?_⟩
  · exact θ_run_mono (θ_run_and (Ker.run m g) (Cert.KernelIdeal.Gen.unchanged m g)) fun r h c =>
      ⟨(h.1 c).1, (h.1 c).2.1, (h.1 c).2.2, (h.2 c).1, (h.2 c).2⟩
  · refine θ_run_mono (Ref.run m' g') fun r h c => ?_
    obtain ⟨xr, hx⟩ := Cert.Pre_finite.real_x (hpre c).1
    obtain ⟨wr, hw⟩ := Cert.Pre_finite.real_w (hpre c).2
    choose K hK using fun (b : Fin 16) (t : Fin 2048) => Nearest.exists_first (Nearest.dists wr fun d => xr b d t)
    have hr := h c
    rw [(hagree c).1, (hagree c).2] at hr
    refine ⟨hr.1.trans (Equation.q_eq hx hw hK).symm, hr.2.1.trans (Equation.loss_eq hx hw hK).symm,
      hr.2.2.1.trans (Equation.idx_eq hx hw hK).symm, (h c).2.2.2.1, (h c).2.2.2.2⟩

/-- The claims. -/
theorem claim : Cert.Claim :=
  ⟨Cert.Kernel.Gen.facts, Cert.KernelIdeal.Gen.facts, Cert.ReferenceIdeal.Gen.facts, Cert.Pre_finite.facts,
    fun m g _ => Cert.Kernel.Gen.frame m g, fun m g _ => Cert.KernelIdeal.Gen.frame m g,
    fun m g _ => Cert.KernelIdeal.Gen.frame m g, fun m g _ => reference_frame m g, fun m g _ => reference_frame m g,
    trivial, algebraic⟩

end Cert.Proof

end
